-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0))
      ∧ r.2.sem = fun _ => 0)

def preserves_Kernel_KernelIdeal : Prop :=
  IdealRules.bf16_pair.Statement Cert.KernelIdeal.S16x128 Cert.KernelIdeal.S8x128
  ∧ IdealRules.bf16_pack.Statement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Weight_WeightIdeal : Prop :=
  IdealRules.bf16_pair.Statement Cert.WeightIdeal.S16x128 Cert.WeightIdeal.S8x128
  ∧ IdealRules.bf16_pack.Statement Cert.WeightIdeal.S8x128

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)) →
    ∃ (v0 : (c : Dev Cert.WeightIdeal.nD) → Buf (Elt Ideal) ((c.tc : Thread Cert.WeightIdeal.nD Cert.WeightIdeal.τ).loc Cert.WeightIdeal.main_v0_0)) (v1 : (c : Dev Cert.WeightIdeal.nD) → Buf (Elt Ideal) ((c.tc : Thread Cert.WeightIdeal.nD Cert.WeightIdeal.τ).loc Cert.WeightIdeal.main_v0_1)) (v2 : (c : Dev Cert.WeightIdeal.nD) → Buf (Elt Ideal) ((c.tc : Thread Cert.WeightIdeal.nD Cert.WeightIdeal.τ).loc Cert.WeightIdeal.main_v0_2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0_0) = v0 c
          ∧ r.2.mem ((c.tc : Thread Cert.WeightIdeal.nD Cert.WeightIdeal.τ).loc Cert.WeightIdeal.main_v0_1) = v1 c
          ∧ r.2.mem ((c.tc : Thread Cert.WeightIdeal.nD Cert.WeightIdeal.τ).loc Cert.WeightIdeal.main_v0_2) = v2 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v0_0) = v0 c
          ∧ r.2.mem ((c.tc : Thread Cert.WeightReferenceIdeal.nD Cert.WeightReferenceIdeal.τ).loc Cert.WeightReferenceIdeal.main_v0_1) = v1 c
          ∧ r.2.mem ((c.tc : Thread Cert.WeightReferenceIdeal.nD Cert.WeightReferenceIdeal.τ).loc Cert.WeightReferenceIdeal.main_v0_2) = v2 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightReferenceIdeal : Cert.WeightReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ preserves_Kernel_KernelIdeal
    ∧ algebraic_KernelIdeal_ReferenceIdeal (hKernelIdeal := hKernelIdeal) (hReferenceIdeal := hReferenceIdeal)
    ∧ preserves_Weight_WeightIdeal
    ∧ algebraic_WeightIdeal_WeightReferenceIdeal (hWeightIdeal := hWeightIdeal) (hWeightReferenceIdeal := hWeightReferenceIdeal)
-- ==== Kernel.lean ====
abbrev S18432x18944 : Shape := ⟨2, ![18432, 18944]⟩
abbrev S3584x18944 : Shape := ⟨2, ![3584, 18944]⟩
abbrev S18432x3584 : Shape := ⟨2, ![18432, 3584]⟩
abbrev S18432x592 : Shape := ⟨2, ![18432, 592]⟩
abbrev S1024x512 : Shape := ⟨2, ![1024, 512]⟩
abbrev S3584x512 : Shape := ⟨2, ![3584, 512]⟩
abbrev S1024x3584 : Shape := ⟨2, ![1024, 3584]⟩
abbrev S1024x128 : Shape := ⟨2, ![1024, 128]⟩
abbrev S16x128 : Shape := ⟨2, ![16, 128]⟩
abbrev S8x128 : Shape := ⟨2, ![8, 128]⟩
abbrev S8x128x1 : Shape := ⟨3, ![8, 128, 1]⟩
abbrev S32x128 : Shape := ⟨2, ![32, 128]⟩

abbrev nBuf : Space → Nat
  | .hbm => 5
  | .vmem => 12
  | .smem => 0
  | _ => 0

abbrev bufTy : (tb : Table) → Fin (tcTables nBuf tb) → BufTy
  | .hbm, ⟨0, _⟩ => ⟨S18432x18944, .bf16⟩
  | .hbm, ⟨1, _⟩ => ⟨S3584x18944, .bf16⟩
  | .hbm, ⟨2, _⟩ => ⟨S18432x3584, .bf16⟩
  | .hbm, ⟨3, _⟩ => ⟨S18432x18944, .fp8e4m3⟩
  | .hbm, ⟨4, _⟩ => ⟨S18432x592, .f32⟩
  | .local _ .vmem, ⟨0, _⟩ => ⟨S1024x512, .bf16⟩
  | .local _ .vmem, ⟨1, _⟩ => ⟨S1024x512, .bf16⟩
  | .local _ .vmem, ⟨2, _⟩ => ⟨S3584x512, .bf16⟩
  | .local _ .vmem, ⟨3, _⟩ => ⟨S3584x512, .bf16⟩
  | .local _ .vmem, ⟨4, _⟩ => ⟨S1024x3584, .bf16⟩
  | .local _ .vmem, ⟨5, _⟩ => ⟨S1024x3584, .bf16⟩
  | .local _ .vmem, ⟨6, _⟩ => ⟨S1024x512, .fp8e4m3⟩
  | .local _ .vmem, ⟨7, _⟩ => ⟨S1024x512, .fp8e4m3⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x3584, .f32⟩
  | _, _ => ⟨S18432x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![18, 37], ![false, false]⟩

@[reducible] def k0_t1_loop : Scf.Loop 32 :=
  let c0_i32_11 : BitVec 32 := 0#32
  let c32_i32 : BitVec 32 := 32#32
  let v40 : BitVec 32 := Scalar.addi c0_i32_11 c32_i32
  let c1_i32_12 : BitVec 32 := 1#32
  ⟨c0_i32_11, v40, c1_i32_12⟩
def k0_off1 (k0_t1 : Fin k0_t1_loop.trips) (c0_i32_25 : BitVec 32) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_24 : BitVec 32 := 32#32
  let v54 : BitVec 32 := Scalar.muli v53 c32_i32_24
  let v55 : BitVec 32 := Scalar.addi v54 c0_i32_25
  let v56 : Index := Scalar.indexCast v55
  let c0_26 : Index := 0#32
  ![v56.toNat, 0]
def k0_off2 (k0_t1 : Fin k0_t1_loop.trips) (c0_i32_25 : BitVec 32) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_24 : BitVec 32 := 32#32
  let v54 : BitVec 32 := Scalar.muli v53 c32_i32_24
  let v55 : BitVec 32 := Scalar.addi v54 c0_i32_25
  let v58 : Index := Scalar.indexCast v55
  let c128 : Index := 128#32
  ![v58.toNat, 128]
def k0_off3 (k0_t1 : Fin k0_t1_loop.trips) (c0_i32_25 : BitVec 32) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_24 : BitVec 32 := 32#32
  let v54 : BitVec 32 := Scalar.muli v53 c32_i32_24
  let v55 : BitVec 32 := Scalar.addi v54 c0_i32_25
  let v60 : Index := Scalar.indexCast v55
  let c256 : Index := 256#32
  ![v60.toNat, 256]
def k0_off4 (k0_t1 : Fin k0_t1_loop.trips) (c0_i32_25 : BitVec 32) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_24 : BitVec 32 := 32#32
  let v54 : BitVec 32 := Scalar.muli v53 c32_i32_24
  let v55 : BitVec 32 := Scalar.addi v54 c0_i32_25
  let v62 : Index := Scalar.indexCast v55
  let c384 : Index := 384#32
  ![v62.toNat, 384]
def k0_off5 (k0_t1 : Fin k0_t1_loop.trips) (c0_i32_25 : BitVec 32) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_24 : BitVec 32 := 32#32
  let v54 : BitVec 32 := Scalar.muli v53 c32_i32_24
  let v55 : BitVec 32 := Scalar.addi v54 c0_i32_25
  let v493 : Index := Scalar.indexCast v55
  let c0_144 : Index := 0#32
  ![v493.toNat, 0]
def k0_off6 (k0_t1 : Fin k0_t1_loop.trips) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_283 : BitVec 32 := 32#32
  let v945 : BitVec 32 := Scalar.muli v53 c32_i32_283
  let v946 : Index := Scalar.indexCast v945
  let c0_284 : Index := 0#32
  ![v946.toNat, 0]
def k0_off7 (k0_t1 : Fin k0_t1_loop.trips) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_285 : BitVec 32 := 32#32
  let v949 : BitVec 32 := Scalar.muli v53 c32_i32_285
  let v950 : Index := Scalar.indexCast v949
  let c128_286 : Index := 128#32
  ![v950.toNat, 128]
def k0_off8 (k0_t1 : Fin k0_t1_loop.trips) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_287 : BitVec 32 := 32#32
  let v953 : BitVec 32 := Scalar.muli v53 c32_i32_287
  let v954 : Index := Scalar.indexCast v953
  let c256_288 : Index := 256#32
  ![v954.toNat, 256]
def k0_off9 (k0_t1 : Fin k0_t1_loop.trips) : Fin 2 → Nat :=
  let c0_i32_23 : BitVec 32 := 0#32
  let c0_i32_11 : BitVec 32 := 0#32
  let c1_i32_12 : BitVec 32 := 1#32
  let arg9 : BitVec 32 := Scf.iv c0_i32_11 c1_i32_12 k0_t1
  let c1_i32_22 : BitVec 32 := 1#32
  let v52 : BitVec 32 := Scalar.muli arg9 c1_i32_22
  let v53 : BitVec 32 := Scalar.addi c0_i32_23 v52
  let c32_i32_289 : BitVec 32 := 32#32
  let v957 : BitVec 32 := Scalar.muli v53 c32_i32_289
  let v958 : Index := Scalar.indexCast v957
  let c384_290 : Index := 384#32
  ![v958.toNat, 384]
def k0_cond2 (i : grid0.Coords) : BitVec 1 :=
  let arg1 : BitVec 32 := BitVec.ofNat 32 (i 1).val
  let c36_i32 : BitVec 32 := 36#32
  let v49 : BitVec 1 := Scalar.cmpi .eq arg1 c36_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F]
-- ==== ReferenceIdeal.lean ====
abbrev S18432x18944 : Shape := ⟨2, ![18432, 18944]⟩
abbrev S3584x18944 : Shape := ⟨2, ![3584, 18944]⟩
abbrev S18432x3584 : Shape := ⟨2, ![18432, 3584]⟩
abbrev S18432x592 : Shape := ⟨2, ![18432, 592]⟩
abbrev S18432x592x32 : Shape := ⟨3, ![18432, 592, 32]⟩
abbrev S18432x592x1 : Shape := ⟨3, ![18432, 592, 1]⟩

abbrev nBuf : Space → Nat
  | .hbm => 5
  | .vmem => 5
  | .smem => 0
  | _ => 0

abbrev bufTy : (tb : Table) → Fin (tcTables nBuf tb) → BufTy
  | .hbm, ⟨0, _⟩ => ⟨S18432x18944, .bf16⟩
  | .hbm, ⟨1, _⟩ => ⟨S3584x18944, .bf16⟩
  | .hbm, ⟨2, _⟩ => ⟨S18432x3584, .bf16⟩
  | .hbm, ⟨3, _⟩ => ⟨S18432x18944, .fp8e4m3⟩
  | .hbm, ⟨4, _⟩ => ⟨S18432x592, .f32⟩
  | .local _ .vmem, ⟨0, _⟩ => ⟨S18432x18944, .bf16⟩
  | .local _ .vmem, ⟨1, _⟩ => ⟨S3584x18944, .bf16⟩
  | .local _ .vmem, ⟨2, _⟩ => ⟨S18432x3584, .bf16⟩
  | .local _ .vmem, ⟨3, _⟩ => ⟨S18432x18944, .fp8e4m3⟩
  | .local _ .vmem, ⟨4, _⟩ => ⟨S18432x592, .f32⟩
  | _, _ => ⟨S18432x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S18432x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x18944 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x592 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Weight.lean ====
abbrev S3584x18944 : Shape := ⟨2, ![3584, 18944]⟩
abbrev S3584x592 : Shape := ⟨2, ![3584, 592]⟩
abbrev S512x512 : Shape := ⟨2, ![512, 512]⟩
abbrev S512x128 : Shape := ⟨2, ![512, 128]⟩
abbrev S16x128 : Shape := ⟨2, ![16, 128]⟩
abbrev S8x128 : Shape := ⟨2, ![8, 128]⟩
abbrev S8x128x1 : Shape := ⟨3, ![8, 128, 1]⟩
abbrev S32x128 : Shape := ⟨2, ![32, 128]⟩

abbrev nBuf : Space → Nat
  | .hbm => 4
  | .vmem => 8
  | .smem => 0
  | _ => 0

abbrev bufTy : (tb : Table) → Fin (tcTables nBuf tb) → BufTy
  | .hbm, ⟨0, _⟩ => ⟨S3584x18944, .bf16⟩
  | .hbm, ⟨1, _⟩ => ⟨S3584x18944, .fp8e4m3⟩
  | .hbm, ⟨2, _⟩ => ⟨S3584x18944, .bf16⟩
  | .hbm, ⟨3, _⟩ => ⟨S3584x592, .f32⟩
  | .local _ .vmem, ⟨0, _⟩ => ⟨S512x512, .bf16⟩
  | .local _ .vmem, ⟨1, _⟩ => ⟨S512x512, .bf16⟩
  | .local _ .vmem, ⟨2, _⟩ => ⟨S512x512, .fp8e4m3⟩
  | .local _ .vmem, ⟨3, _⟩ => ⟨S512x512, .fp8e4m3⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | _, _ => ⟨S3584x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![7, 37], ![false, false]⟩

@[reducible] def k0_t1_loop : Scf.Loop 32 :=
  let c0_i32_9 : BitVec 32 := 0#32
  let c16_i32_10 : BitVec 32 := 16#32
  let v37 : BitVec 32 := Scalar.addi c0_i32_9 c16_i32_10
  let c1_i32_11 : BitVec 32 := 1#32
  ⟨c0_i32_9, v37, c1_i32_11⟩
def k0_off1 (k0_t1 : Fin k0_t1_loop.trips) (c0_i32_15 : BitVec 32) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32 : BitVec 32 := 32#32
  let v40 : BitVec 32 := Scalar.muli v39 c32_i32
  let v41 : BitVec 32 := Scalar.addi v40 c0_i32_15
  let v42 : Index := Scalar.indexCast v41
  let c0 : Index := 0#32
  ![v42.toNat, 0]
def k0_off2 (k0_t1 : Fin k0_t1_loop.trips) (c0_i32_15 : BitVec 32) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32 : BitVec 32 := 32#32
  let v40 : BitVec 32 := Scalar.muli v39 c32_i32
  let v41 : BitVec 32 := Scalar.addi v40 c0_i32_15
  let v44 : Index := Scalar.indexCast v41
  let c128 : Index := 128#32
  ![v44.toNat, 128]
def k0_off3 (k0_t1 : Fin k0_t1_loop.trips) (c0_i32_15 : BitVec 32) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32 : BitVec 32 := 32#32
  let v40 : BitVec 32 := Scalar.muli v39 c32_i32
  let v41 : BitVec 32 := Scalar.addi v40 c0_i32_15
  let v46 : Index := Scalar.indexCast v41
  let c256 : Index := 256#32
  ![v46.toNat, 256]
def k0_off4 (k0_t1 : Fin k0_t1_loop.trips) (c0_i32_15 : BitVec 32) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32 : BitVec 32 := 32#32
  let v40 : BitVec 32 := Scalar.muli v39 c32_i32
  let v41 : BitVec 32 := Scalar.addi v40 c0_i32_15
  let v48 : Index := Scalar.indexCast v41
  let c384 : Index := 384#32
  ![v48.toNat, 384]
def k0_off5 (k0_t1 : Fin k0_t1_loop.trips) (c0_i32_15 : BitVec 32) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32 : BitVec 32 := 32#32
  let v40 : BitVec 32 := Scalar.muli v39 c32_i32
  let v41 : BitVec 32 := Scalar.addi v40 c0_i32_15
  let v471 : Index := Scalar.indexCast v41
  let c0_132 : Index := 0#32
  ![v471.toNat, 0]
def k0_off6 (k0_t1 : Fin k0_t1_loop.trips) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32_271 : BitVec 32 := 32#32
  let v915 : BitVec 32 := Scalar.muli v39 c32_i32_271
  let v916 : Index := Scalar.indexCast v915
  let c0_272 : Index := 0#32
  ![v916.toNat, 0]
def k0_off7 (k0_t1 : Fin k0_t1_loop.trips) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32_273 : BitVec 32 := 32#32
  let v919 : BitVec 32 := Scalar.muli v39 c32_i32_273
  let v920 : Index := Scalar.indexCast v919
  let c128_274 : Index := 128#32
  ![v920.toNat, 128]
def k0_off8 (k0_t1 : Fin k0_t1_loop.trips) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32_275 : BitVec 32 := 32#32
  let v923 : BitVec 32 := Scalar.muli v39 c32_i32_275
  let v924 : Index := Scalar.indexCast v923
  let c256_276 : Index := 256#32
  ![v924.toNat, 256]
def k0_off9 (k0_t1 : Fin k0_t1_loop.trips) : Fin 2 → Nat :=
  let c0_i32_14 : BitVec 32 := 0#32
  let c0_i32_9 : BitVec 32 := 0#32
  let c1_i32_11 : BitVec 32 := 1#32
  let arg6 : BitVec 32 := Scf.iv c0_i32_9 c1_i32_11 k0_t1
  let c1_i32_13 : BitVec 32 := 1#32
  let v38 : BitVec 32 := Scalar.muli arg6 c1_i32_13
  let v39 : BitVec 32 := Scalar.addi c0_i32_14 v38
  let c32_i32_277 : BitVec 32 := 32#32
  let v927 : BitVec 32 := Scalar.muli v39 c32_i32_277
  let v928 : Index := Scalar.indexCast v927
  let c384_278 : Index := 384#32
  ![v928.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WeightIdeal.lean ====
variable {F : FTy → Type} [FloatOps F]
-- ==== WeightReferenceIdeal.lean ====
abbrev S3584x18944 : Shape := ⟨2, ![3584, 18944]⟩
abbrev S3584x592 : Shape := ⟨2, ![3584, 592]⟩
abbrev S3584x592x32 : Shape := ⟨3, ![3584, 592, 32]⟩
abbrev S3584x592x1 : Shape := ⟨3, ![3584, 592, 1]⟩

abbrev nBuf : Space → Nat
  | .hbm => 4
  | .vmem => 4
  | .smem => 0
  | _ => 0

abbrev bufTy : (tb : Table) → Fin (tcTables nBuf tb) → BufTy
  | .hbm, ⟨0, _⟩ => ⟨S3584x18944, .bf16⟩
  | .hbm, ⟨1, _⟩ => ⟨S3584x18944, .fp8e4m3⟩
  | .hbm, ⟨2, _⟩ => ⟨S3584x18944, .bf16⟩
  | .hbm, ⟨3, _⟩ => ⟨S3584x592, .f32⟩
  | .local _ .vmem, ⟨0, _⟩ => ⟨S3584x18944, .bf16⟩
  | .local _ .vmem, ⟨1, _⟩ => ⟨S3584x18944, .fp8e4m3⟩
  | .local _ .vmem, ⟨2, _⟩ => ⟨S3584x18944, .bf16⟩
  | .local _ .vmem, ⟨3, _⟩ => ⟨S3584x592, .f32⟩
  | _, _ => ⟨S3584x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3584x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x592 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/-
  Hand-written. The frame of the printed kernel: every run of its one region terminates, leaves both operands as
  launched and every semaphore counter at zero. The body is run by `sl_exec` once for each reading of its two
  conditionals (first and last column block of a row of the grid); what it leaves in the outputs and in its two
  scratch buffers is not named here. The row loop is taken by the generated invariant `Gen.loopInv_k0_t1`.
-/
module

public import proofs.«01_k».proof.Proof.Gen.Kernel.Frame
public import proofs.«01_k».proof.Proof.Gen.Kernel.Loops
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The condition of the body's first conditional at grid point `i`: column block zero. -/
abbrev cond1 (i : grid0.Coords) : BitVec 1 :=
  Scalar.cmpi .ne (Scalar.extui (Scalar.cmpi .eq (BitVec.ofNat 32 (i 1).val) 0#32)) 0#32

set_option maxHeartbeats 4000000 in
/-- The body run from any contents of its operands and scratch buffers to some contents of each. -/
theorem kernelRun (c : Dev nD) (i : grid0.Coords)
    (arg2 : Memref sig .tc .vmem S1024x512 .bf16) (harg2 : arg2.IsWhole) (arg3 : Memref sig .tc .vmem S3584x512 .bf16) (harg3 : arg3.IsWhole)
    (arg4 : Memref sig .tc .vmem S1024x3584 .bf16) (harg4 : arg4.IsWhole) (arg5 : Memref sig .tc .vmem S1024x512 .fp8e4m3) (harg5 : arg5.IsWhole)
    (arg6 : Memref sig .tc .vmem S1024x128 .f32) (harg6 : arg6.IsWhole) (arg7 : Memref sig .tc .vmem S1024x512 .bf16) (harg7 : arg7.IsWhole)
    (arg8 : Memref sig .tc .vmem S1024x3584 .f32) (harg8 : arg8.IsWhole) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)) -∗ K ⟨⟩))
      ⊢ wp frame (wpE (defs₀ (F := F)) Variants.none c none) Set.univ
          (cc0_mx_dgrad i arg2 harg2 arg3 harg3 arg4 harg4 arg5 harg5 arg6 harg6 arg7 harg7 arg8 harg8) K := by
  simp only [cc0_mx_dgrad_eq_skeleton]; unfold cc0_mx_dgrad_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  by_cases hc1 : cond1 i = 1#1 <;> by_cases hc2 : k0_cond2 i = 1#1
  all_goals
    sl_exec
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The proof data on core `c`: the arrays as launched, nothing said of what the body leaves in any staging buffer,
    the scratch buffers at anything between points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant between points, buffer by buffer. -/
theorem PhiA_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d))
          ∗ ∃ r, prngReg c r) := by
  unfold Pipeline.ΦA; rw [scopedRest0_eq]; simp only [owns_whole]; try rfl

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) :
    (rdat (F := F) m c).BodyObligation (defs₀ (F := F)) Variants.none () Set.univ := fun t Y _ => by
  rw [bigSep_W0, bigSep_W0, defs₀_row]
  unfold bodyAt0
  rw [show (rdat (F := F) m c).Φ t.castSucc = Pipeline.ΦA spec0 c from rfl,
    show (rdat (F := F) m c).Φ t.succ = Pipeline.ΦA spec0 c from rfl,
    show (rdat (F := F) m c).owesAt () t.succ = (rdat (F := F) m c).owesAt () t.castSucc from rfl, PhiA_eq]
  iintro ⟨⟨⟨H7, H8⟩, Hg⟩, HO, H2, H3, H4, H5, H6⟩
  iapply (kernelRun c _ _ _ _ _ _ _ _ _ _ _ _ _ _ _ _)
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iintro ⟨⟨%d2, H2⟩, ⟨%d3, H3⟩, ⟨%d4, H4⟩, ⟨%d5, H5⟩, ⟨%d6, H6⟩, H7, H8⟩
  isplitl [H7 H8 Hg]
  · isplitl [H7 H8]
    · isplitl [H7]; · iexact H7
      iexact H8
    iexact Hg
  isplitl [HO]; · iexact HO
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  isplitl [H5]
  · iexists d5; isplitr; · ipureintro; trivial
    iexact H5
  iexists d6; isplitr; · ipureintro; trivial
  iexact H6

set_option maxHeartbeats 800000 in
set_option backward.isDefEq.respectTransparency.types false in
/-- Every run of @main terminates with the operands as launched and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _)

/-- The frame claim. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨Pipeline.RDat.FramePost.arr_in h.1 c 0 rfl, Pipeline.RDat.FramePost.arr_in h.1 c 1 rfl⟩, h.2⟩) (run_main m ρ)

end Cert.Kernel.Hand

end
-- ==== Proof.KernelIdealFrame.lean ====
/-
  Hand-written. The frame of the idealized kernel: every run of its one region terminates, leaves both operands as
  launched and every semaphore counter at zero. The body is run by `sl_exec` once for each reading of its two
  conditionals (first and last column block of a row of the grid); what it leaves in the outputs and in its two
  scratch buffers is not named here. The row loop is taken by the generated invariant `Gen.loopInv_k0_t1`.
-/
module

public import proofs.«01_k».proof.Proof.Gen.KernelIdeal.Frame
public import proofs.«01_k».proof.Proof.Gen.KernelIdeal.Loops
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first conditional at grid point `i`: column block zero. -/
abbrev cond1 (i : grid0.Coords) : BitVec 1 :=
  Scalar.cmpi .ne (Scalar.extui (Scalar.cmpi .eq (BitVec.ofNat 32 (i 1).val) 0#32)) 0#32

set_option maxHeartbeats 4000000 in
/-- The body run from any contents of its operands and scratch buffers to some contents of each. -/
theorem kernelRun (c : Dev nD) (i : grid0.Coords)
    (arg2 : Memref sig .tc .vmem S1024x512 .bf16) (harg2 : arg2.IsWhole) (arg3 : Memref sig .tc .vmem S3584x512 .bf16) (harg3 : arg3.IsWhole)
    (arg4 : Memref sig .tc .vmem S1024x3584 .bf16) (harg4 : arg4.IsWhole) (arg5 : Memref sig .tc .vmem S1024x512 .fp8e4m3) (harg5 : arg5.IsWhole)
    (arg6 : Memref sig .tc .vmem S1024x128 .f32) (harg6 : arg6.IsWhole) (arg7 : Memref sig .tc .vmem S1024x512 .bf16) (harg7 : arg7.IsWhole)
    (arg8 : Memref sig .tc .vmem S1024x3584 .f32) (harg8 : arg8.IsWhole) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)) -∗ K ⟨⟩))
      ⊢ wp frame (wpE (defs₀ (F := F)) Variants.none c none) Set.univ
          (cc0_mx_dgrad i arg2 harg2 arg3 harg3 arg4 harg4 arg5 harg5 arg6 harg6 arg7 harg7 arg8 harg8) K := by
  simp only [cc0_mx_dgrad_eq_skeleton]; unfold cc0_mx_dgrad_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  by_cases hc1 : cond1 i = 1#1 <;> by_cases hc2 : k0_cond2 i = 1#1
  all_goals
    sl_exec
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The proof data on core `c`: the arrays as launched, nothing said of what the body leaves in any staging buffer,
    the scratch buffers at anything between points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant between points, buffer by buffer. -/
theorem PhiA_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d))
          ∗ ∃ r, prngReg c r) := by
  unfold Pipeline.ΦA; rw [scopedRest0_eq]; simp only [owns_whole]; try rfl

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) :
    (rdat (F := F) m c).BodyObligation (defs₀ (F := F)) Variants.none () Set.univ := fun t Y _ => by
  rw [bigSep_W0, bigSep_W0, defs₀_row]
  unfold bodyAt0
  rw [show (rdat (F := F) m c).Φ t.castSucc = Pipeline.ΦA spec0 c from rfl,
    show (rdat (F := F) m c).Φ t.succ = Pipeline.ΦA spec0 c from rfl,
    show (rdat (F := F) m c).owesAt () t.succ = (rdat (F := F) m c).owesAt () t.castSucc from rfl, PhiA_eq]
  iintro ⟨⟨⟨H7, H8⟩, Hg⟩, HO, H2, H3, H4, H5, H6⟩
  iapply (kernelRun c _ _ _ _ _ _ _ _ _ _ _ _ _ _ _ _)
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iintro ⟨⟨%d2, H2⟩, ⟨%d3, H3⟩, ⟨%d4, H4⟩, ⟨%d5, H5⟩, ⟨%d6, H6⟩, H7, H8⟩
  isplitl [H7 H8 Hg]
  · isplitl [H7 H8]
    · isplitl [H7]; · iexact H7
      iexact H8
    iexact Hg
  isplitl [HO]; · iexact HO
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  isplitl [H5]
  · iexists d5; isplitr; · ipureintro; trivial
    iexact H5
  iexists d6; isplitr; · ipureintro; trivial
  iexact H6

set_option maxHeartbeats 800000 in
set_option backward.isDefEq.respectTransparency.types false in
/-- Every run of @main terminates with the operands as launched and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _)

/-- The frame claim. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨Pipeline.RDat.FramePost.arr_in h.1 c 0 rfl, Pipeline.RDat.FramePost.arr_in h.1 c 1 rfl⟩, h.2⟩) (run_main m ρ)

end Cert.KernelIdeal.Hand

end
-- ==== Proof.RefValue.lean ====
/-
  The reference's run: its pallas_call has one grid point, each window's block is its whole array, so each result
  array ends at the stored payload applied to the argument arrays.
-/
module

public import proofs.«01_k».proof.Proof.Gen.ReferenceIdeal.Frame
public import Idealize.ShloMosaic.Lib.Pipeline.Value

@[expose] public section

noncomputable section

namespace Cert.ReferenceIdeal.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S18432x18944.Idx) : ((cfg0.win 0).blk t).view.emb j = j := by
  obtain ⟨e0, e1⟩ := idx_zero0 t
  funext a; apply Fin.ext
  match a with
  | ⟨0, _⟩ => show win0_0.index t (0 : Fin 2) * 18432 + 1 * (j 0).val = (j 0).val; omega
  | ⟨1, _⟩ => show win0_0.index t (1 : Fin 2) * 18944 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3584x18944.Idx) : ((cfg0.win 1).blk t).view.emb j = j := by
  obtain ⟨e0, e1⟩ := idx_zero1 t
  funext a; apply Fin.ext
  match a with
  | ⟨0, _⟩ => show win0_1.index t (0 : Fin 2) * 3584 + 1 * (j 0).val = (j 0).val; omega
  | ⟨1, _⟩ => show win0_1.index t (1 : Fin 2) * 18944 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S18432x3584.Idx) : ((cfg0.win 2).blk t).view.emb j = j := by
  obtain ⟨e0, e1⟩ := idx_zero2 t
  funext a; apply Fin.ext
  match a with
  | ⟨0, _⟩ => show win0_2.index t (0 : Fin 2) * 18432 + 1 * (j 0).val = (j 0).val; omega
  | ⟨1, _⟩ => show win0_2.index t (1 : Fin 2) * 3584 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S18432x18944.Idx) : ((cfg0.win 3).blk t).view.emb j = j := by
  obtain ⟨e0, e1⟩ := idx_zero3 t
  funext a; apply Fin.ext
  match a with
  | ⟨0, _⟩ => show win0_3.index t (0 : Fin 2) * 18432 + 1 * (j 0).val = (j 0).val; omega
  | ⟨1, _⟩ => show win0_3.index t (1 : Fin 2) * 18944 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S18432x592.Idx) : ((cfg0.win 4).blk t).view.emb j = j := by
  obtain ⟨e0, e1⟩ := idx_zero4 t
  funext a; apply Fin.ext
  match a with
  | ⟨0, _⟩ => show win0_4.index t (0 : Fin 2) * 18432 + 1 * (j 0).val = (j 0).val; omega
  | ⟨1, _⟩ => show win0_4.index t (1 : Fin 2) * 592 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S18432x18944 .bf16) (a1 : Vec F S3584x18944 .bf16) : Vec F S18432x3584 .bf16 :=
  k0_pay7 a0 a1

/-- A load of the whole of a block reads the block, and the one store through the whole rectangle leaves its payload. -/
theorem out2_eq (a0 : Vec F S18432x18944 .bf16) (a1 : Vec F S3584x18944 .bf16) : out0_2 (F := F) a0 a1 = G2 a0 a1 := by
  unfold out0_2
  rw [View.canon_unit_zero hz2, View.ld_unit_zero (S := S18432x18944) hz0 _ a0, View.ld_unit_zero (S := S3584x18944) hz1 _ a1]

/-- Cutting the point's block out of `X` and reading `X` through the block's view give the same. -/
theorem cut2_eq (t : Fin cfg0.N) (X : Vec F S18432x3584 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S18432x3584.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S18432x18944 .bf16) (a1 : Vec F S3584x18944 .bf16) : Vec F S18432x18944 .fp8e4m3 :=
  k0_pay1 (k0_pay6 a0)

/-- A load of the whole of a block reads the block, and the one store through the whole rectangle leaves its payload. -/
theorem out3_eq (a0 : Vec F S18432x18944 .bf16) (a1 : Vec F S3584x18944 .bf16) : out0_3 (F := F) a0 a1 = G3 a0 a1 := by
  unfold out0_3
  rw [View.canon_unit_zero hz3, View.ld_unit_zero (S := S18432x18944) hz0 _ a0]

/-- Cutting the point's block out of `X` and reading `X` through the block's view give the same. -/
theorem cut3_eq (t : Fin cfg0.N) (X : Vec F S18432x18944 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S18432x18944.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S18432x18944 .bf16) (a1 : Vec F S3584x18944 .bf16) : Vec F S18432x592 .f32 :=
  k0_pay2 (k0_pay5 a0)

/-- A load of the whole of a block reads the block, and the one store through the whole rectangle leaves its payload. -/
theorem out4_eq (a0 : Vec F S18432x18944 .bf16) (a1 : Vec F S3584x18944 .bf16) : out0_4 (F := F) a0 a1 = G4 a0 a1 := by
  unfold out0_4
  rw [View.canon_unit_zero hz4, View.ld_unit_zero (S := S18432x18944) hz0 _ a0]

/-- Cutting the point's block out of `X` and reading `X` through the block's view give the same. -/
theorem cut4_eq (t : Fin cfg0.N) (X : Vec F S18432x592 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S18432x592.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c),
      ((h c).1 3).trans (final3 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.Ref

end
-- ==== Proof.Quant.lean ====
/-
  The quantiser of the kernel's body as vector functions of the four columns of 128 lanes it loads, sixteen rows at a
  time: `blockMax` (the greatest magnitude of every 32-lane block, by exchanges of lanes between the columns), `scaleV`
  (the power of two a magnitude is divided by, by comparisons), `codesV`, `deqV` and `scV` (the quotients, the
  dequantised values and the scales in the places they are stored). Each payload the body stores in a trip of its row
  loop is one of them at that trip's loads, by definitional unfolding.
-/
module

public import proofs.«01_k».proof.Proof.Gen.KernelIdeal.Frame
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The rows of one parity. -/
abbrev par (p : Fin 2) (x : FVec F S16x128 .bf16) : FVec F S8x128 .bf16 := rowsOfParity p S8x128 x bitcasts_S16x128_w16_S8x128_w32
/-- The rows `lo` and `hi` alternated. -/
abbrev mix (lo hi : FVec F S8x128 .bf16) : FVec F S16x128 .bf16 := interleaveRows S16x128 lo hi bitcasts_S16x128_w16_S8x128_w32
/-- The lanes turned by `n`. -/
abbrev rot (n : BitVec 32) (x : FVec F S8x128 .bf16) : FVec F S8x128 .bf16 := dynamicRotate 1 n none x rotates_S8x128_d1
/-- The lane numbers. -/
abbrev lanes : IVec S8x128 32 := iota .tc S8x128 32 [1] iota_S8x128_d1_w32
/-- Whether bit `n` of the lane number is clear. -/
def clear (n : BitVec 32) : IVec S8x128 1 := cmpi .eq (andi lanes (broadcast S8x128 n)) (broadcast S8x128 0#32)

/-- One exchange: where bit `n` of the lane is clear the maximum of `a` and `a` at the lane with the bit set, elsewhere
    that of `b` and `b` at the lane with the bit clear. -/
def exch (n n' : BitVec 32) (a b : FVec F S16x128 .bf16) : FVec F S16x128 .bf16 :=
  maximumf (mix (select (clear n) (par 0 a) (rot n (par 0 b))) (select (clear n) (par 1 a) (rot n (par 1 b))))
    (mix (select (clear n) (rot n' (par 0 a)) (par 0 b)) (select (clear n) (rot n' (par 1 a)) (par 1 b)))
/-- The maximum of a lane and the lane `128 - n'` further on. -/
def fold (n' : BitVec 32) (a : FVec F S16x128 .bf16) : FVec F S16x128 .bf16 :=
  maximumf (mix (par 0 a) (par 1 a)) (mix (rot n' (par 0 a)) (rot n' (par 1 a)))
/-- The greatest magnitudes of the 32-lane blocks of four columns. -/
def blockMax (x0 x1 x2 x3 : FVec F S16x128 .bf16) : FVec F S16x128 .bf16 :=
  fold 127#32 (fold 126#32 (fold 124#32 (exch 8#32 120#32 (exch 16#32 112#32 (absf x0) (absf x1)) (exch 16#32 112#32 (absf x2) (absf x3)))))

/-- One comparison of the scale's search: by the factor `w`. -/
def rung (w : BitVec 32) (m s : FVec F S8x128 .f32) : FVec F S8x128 .f32 :=
  select (cmpf .oge m (mulf (mulf s (broadcast S8x128 (Scalar.ofBits .f32 w))) (broadcast S8x128 (Scalar.ofBits .f32 0x43600000#32))))
    (mulf s (broadcast S8x128 (Scalar.ofBits .f32 w))) s
/-- The scale of a block whose greatest magnitude is `m`. -/
def scaleV (m : FVec F S8x128 .f32) : FVec F S8x128 .f32 :=
  select (andi (cmpf .oge m (broadcast S8x128 (Scalar.ofBits .f32 0x04E00000#32))) (cmpf .ole m (broadcast S8x128 (Scalar.ofBits .f32 0x7F7FFFFF#32))))
    (rung 0x40000000#32 m (rung 0x40800000#32 m (rung 0x41800000#32 m (rung 0x43800000#32 m (rung 0x47800000#32 m (rung 0x4F800000#32 m (rung 0x5F800000#32 m
      (select (cmpf .oge m (broadcast S8x128 (Scalar.ofBits .f32 0x44E00000#32))) (broadcast S8x128 (Scalar.ofBits .f32 0x41000000#32)) (broadcast S8x128 (Scalar.ofBits .f32 0x01000000#32))))))))))
    (broadcast S8x128 (Scalar.ofBits .f32 0x3F800000#32))
/-- The scales of the rows of one parity. -/
def scaleP (p : Fin 2) (x0 x1 x2 x3 : FVec F S16x128 .bf16) : FVec F S8x128 .f32 :=
  scaleV (extf .f32 (par p (blockMax x0 x1 x2 x3)) bitsLt_bf16_f32)

/-- Lanes gathered from the places `i`, a negative place counted from the end. -/
def gat (s : FVec F S8x128 .f32) (i : IVec S8x128 32) : FVec F S8x128 .f32 :=
  dynamicGather 1 s (shapeCast S8x128 (shapeCast S8x128x1 (select (cmpi .slt i (broadcast S8x128 0#32)) (addi i (broadcast S8x128 128#32)) i) shapeCasts_S8x128_S8x128x1) shapeCasts_S8x128x1_S8x128)
/-- Where column `n`'s scales lie: `n` into the lane's 32-lane block. -/
def col (n : BitVec 32) : IVec S8x128 32 := addi (andi lanes (broadcast S8x128 96#32)) (broadcast S8x128 n)
/-- Where the scale of a lane of the scales' block lies. -/
def scLane : IVec S8x128 32 :=
  addi (addi (muli (broadcast S8x128 32#32) (andi (andi lanes (broadcast S8x128 15#32)) (broadcast S8x128 3#32)))
      (muli (broadcast S8x128 16#32) (andi (shrsi (andi lanes (broadcast S8x128 15#32)) (broadcast S8x128 2#32)) (broadcast S8x128 1#32))))
    (muli (broadcast S8x128 8#32) (shrsi (andi lanes (broadcast S8x128 15#32)) (broadcast S8x128 3#32)))

/-- The scales of both parities at the places `i`, as sixteen rows. -/
def scV (lo hi : FVec F S8x128 .f32) (i : IVec S8x128 32) : FVec F S16x128 .bf16 :=
  mix (truncf .bf16 (gat lo i) bitsLt_bf16_f32) (truncf .bf16 (gat hi i) bitsLt_bf16_f32)
/-- Their reciprocals. -/
def recV (lo hi : FVec F S8x128 .f32) (i : IVec S8x128 32) : FVec F S16x128 .bf16 :=
  mix (truncf .bf16 (divf (broadcast S8x128 (Scalar.ofBits .f32 0x3F800000#32)) (gat lo i)) bitsLt_bf16_f32)
    (truncf .bf16 (divf (broadcast S8x128 (Scalar.ofBits .f32 0x3F800000#32)) (gat hi i)) bitsLt_bf16_f32)
/-- The codes of a column. -/
def codesV (x : FVec F S16x128 .bf16) (lo hi : FVec F S8x128 .f32) (i : IVec S8x128 32) : FVec F S16x128 .fp8e4m3 :=
  truncf .fp8e4m3 (minimumf (broadcast S16x128 (Scalar.truncf .bf16 bitsLt_bf16_f32 (Scalar.ofBits .f32 0x43E00000#32)))
    (maximumf (broadcast S16x128 (Scalar.truncf .bf16 bitsLt_bf16_f32 (Scalar.ofBits .f32 0xC3E00000#32))) (mulf x (recV lo hi i)))) bitsLt_fp8e4m3_bf16
/-- The dequantised column. -/
def deqV (x : FVec F S16x128 .bf16) (lo hi : FVec F S8x128 .f32) (i : IVec S8x128 32) : FVec F S16x128 .bf16 :=
  mulf (extf .bf16 (codesV x lo hi i) bitsLt_fp8e4m3_bf16) (scV lo hi i)

section

variable (arg2 : Memref sig .tc .vmem S1024x512 .bf16) (arg6 : Memref sig .tc .vmem S1024x128 .f32)
  (X : BufTy.Contents (Elt F) arg2.view.ty) (k : Fin k0_t1_loop.trips) (f6 : BufTy.Contents (Elt F) arg6.view.ty)

/-! The first sixteen rows of a trip. -/

theorem r_21_eq : trip_k0_t1.sl.r_21 arg2 X k = scaleP 0 (trip_k0_t1.sl.r arg2 X k) (trip_k0_t1.sl.r_1 arg2 X k) (trip_k0_t1.sl.r_2 arg2 X k) (trip_k0_t1.sl.r_3 arg2 X k) := rfl
theorem r_17_eq : trip_k0_t1.sl.r_17 arg2 X k = scaleP 1 (trip_k0_t1.sl.r arg2 X k) (trip_k0_t1.sl.r_1 arg2 X k) (trip_k0_t1.sl.r_2 arg2 X k) (trip_k0_t1.sl.r_3 arg2 X k) := rfl
theorem r_25_eq : trip_k0_t1.sl.r_25 arg2 X k = codesV (trip_k0_t1.sl.r arg2 X k) (trip_k0_t1.sl.r_21 arg2 X k) (trip_k0_t1.sl.r_17 arg2 X k) (col 0#32) := rfl
theorem r_26_eq : trip_k0_t1.sl.r_26 arg2 X k = deqV (trip_k0_t1.sl.r arg2 X k) (trip_k0_t1.sl.r_21 arg2 X k) (trip_k0_t1.sl.r_17 arg2 X k) (col 0#32) := rfl
theorem r_30_eq : trip_k0_t1.sl.r_30 arg2 X k = codesV (trip_k0_t1.sl.r_1 arg2 X k) (trip_k0_t1.sl.r_21 arg2 X k) (trip_k0_t1.sl.r_17 arg2 X k) (col 16#32) := rfl
theorem r_31_eq : trip_k0_t1.sl.r_31 arg2 X k = deqV (trip_k0_t1.sl.r_1 arg2 X k) (trip_k0_t1.sl.r_21 arg2 X k) (trip_k0_t1.sl.r_17 arg2 X k) (col 16#32) := rfl
theorem r_35_eq : trip_k0_t1.sl.r_35 arg2 X k = codesV (trip_k0_t1.sl.r_2 arg2 X k) (trip_k0_t1.sl.r_21 arg2 X k) (trip_k0_t1.sl.r_17 arg2 X k) (col 8#32) := rfl
theorem r_36_eq : trip_k0_t1.sl.r_36 arg2 X k = deqV (trip_k0_t1.sl.r_2 arg2 X k) (trip_k0_t1.sl.r_21 arg2 X k) (trip_k0_t1.sl.r_17 arg2 X k) (col 8#32) := rfl
theorem r_39_eq : trip_k0_t1.sl.r_39 arg2 X k = codesV (trip_k0_t1.sl.r_3 arg2 X k) (trip_k0_t1.sl.r_21 arg2 X k) (trip_k0_t1.sl.r_17 arg2 X k) (col 24#32) := rfl
theorem r_41_eq : trip_k0_t1.sl.r_41 arg2 X k = deqV (trip_k0_t1.sl.r_3 arg2 X k) (trip_k0_t1.sl.r_21 arg2 X k) (trip_k0_t1.sl.r_17 arg2 X k) (col 24#32) := rfl
theorem r_42_eq : trip_k0_t1.sl.r_42 arg2 X k = scV (trip_k0_t1.sl.r_21 arg2 X k) (trip_k0_t1.sl.r_17 arg2 X k) scLane := rfl

/-! The other sixteen. -/

theorem r_66_eq : trip_k0_t1.sl.r_66 arg2 X k = scaleP 0 (trip_k0_t1.sl.r_43 arg2 X k) (trip_k0_t1.sl.r_44 arg2 X k) (trip_k0_t1.sl.r_45 arg2 X k) (trip_k0_t1.sl.r_46 arg2 X k) := rfl
theorem r_62_eq : trip_k0_t1.sl.r_62 arg2 X k = scaleP 1 (trip_k0_t1.sl.r_43 arg2 X k) (trip_k0_t1.sl.r_44 arg2 X k) (trip_k0_t1.sl.r_45 arg2 X k) (trip_k0_t1.sl.r_46 arg2 X k) := rfl
theorem r_67_eq : trip_k0_t1.sl.r_67 arg2 X k = codesV (trip_k0_t1.sl.r_43 arg2 X k) (trip_k0_t1.sl.r_66 arg2 X k) (trip_k0_t1.sl.r_62 arg2 X k) (col 0#32) := rfl
theorem r_68_eq : trip_k0_t1.sl.r_68 arg2 X k = deqV (trip_k0_t1.sl.r_43 arg2 X k) (trip_k0_t1.sl.r_66 arg2 X k) (trip_k0_t1.sl.r_62 arg2 X k) (col 0#32) := rfl
theorem r_69_eq : trip_k0_t1.sl.r_69 arg2 X k = codesV (trip_k0_t1.sl.r_44 arg2 X k) (trip_k0_t1.sl.r_66 arg2 X k) (trip_k0_t1.sl.r_62 arg2 X k) (col 16#32) := rfl
theorem r_70_eq : trip_k0_t1.sl.r_70 arg2 X k = deqV (trip_k0_t1.sl.r_44 arg2 X k) (trip_k0_t1.sl.r_66 arg2 X k) (trip_k0_t1.sl.r_62 arg2 X k) (col 16#32) := rfl
theorem r_72_eq : trip_k0_t1.sl.r_72 arg2 X k = codesV (trip_k0_t1.sl.r_45 arg2 X k) (trip_k0_t1.sl.r_66 arg2 X k) (trip_k0_t1.sl.r_62 arg2 X k) (col 8#32) := rfl
theorem r_73_eq : trip_k0_t1.sl.r_73 arg2 X k = deqV (trip_k0_t1.sl.r_45 arg2 X k) (trip_k0_t1.sl.r_66 arg2 X k) (trip_k0_t1.sl.r_62 arg2 X k) (col 8#32) := rfl
theorem r_75_eq : trip_k0_t1.sl.r_75 arg2 X k = codesV (trip_k0_t1.sl.r_46 arg2 X k) (trip_k0_t1.sl.r_66 arg2 X k) (trip_k0_t1.sl.r_62 arg2 X k) (col 24#32) := rfl
theorem r_76_eq : trip_k0_t1.sl.r_76 arg2 X k = deqV (trip_k0_t1.sl.r_46 arg2 X k) (trip_k0_t1.sl.r_66 arg2 X k) (trip_k0_t1.sl.r_62 arg2 X k) (col 24#32) := rfl
end

end Cert.KernelIdeal.Hand

end
-- ==== Proof.Scale.lean ====
/-
  The scale of a block of 32 elements, over the extended reals. `ladder a` is the kernel's: the power of two found by
  eight comparisons of the block's greatest magnitude `a`. `expo a` is the reference's exponent: one more than the whole
  part of the base-2 logarithm of `a / 448`. Both name the same power of two (`scale_eq`), also where `a` is too small
  or not finite: there both are one.
-/
module

public import Idealize.ShloMosaic.PureOps.Ideal

@[expose] public section

noncomputable section

namespace Cert.Scale

open Idealize.ShloMosaic

/-- One comparison: `s * w` if 224 times it is at most `a`, else `s`. -/
def rungE (w : BitVec 32) (a s : EReal) : EReal :=
  if s * Ideal.ofBits .f32 w * Ideal.ofBits .f32 0x43600000#32 ≤ a then s * Ideal.ofBits .f32 w else s

/-- The kernel's scale for the greatest magnitude `a`. -/
def ladder (a : EReal) : EReal :=
  if Ideal.ofBits .f32 0x04E00000#32 ≤ a ∧ a ≤ Ideal.ofBits .f32 0x7F7FFFFF#32 then
    rungE 0x40000000#32 a (rungE 0x40800000#32 a (rungE 0x41800000#32 a (rungE 0x43800000#32 a (rungE 0x47800000#32 a
      (rungE 0x4F800000#32 a (rungE 0x5F800000#32 a
        (if Ideal.ofBits .f32 0x44E00000#32 ≤ a then Ideal.ofBits .f32 0x41000000#32 else Ideal.ofBits .f32 0x01000000#32)))))))
  else 1

/-- The reference's exponent for the greatest magnitude `a`. -/
def expo (a : EReal) : EReal :=
  if Ideal.ofBits .f32 0x00800000#32 ≤ Ideal.div a (Ideal.ofBits .f32 0x43E00000#32) ∧ a ≤ Ideal.ofBits .f32 0x7F7FFFFF#32 then
    Ideal.liftRound Int.floor (Ideal.div (Ideal.log (Ideal.div a (Ideal.ofBits .f32 0x43E00000#32))) (Ideal.log (Ideal.ofBits .f32 0x40000000#32))) + 1
  else 0

/-- A power of two as an extended real. -/
abbrev pow2 (z : ℤ) : EReal := ((2 : ℝ) ^ z : ℝ)

theorem c_224 : Ideal.ofBits .f32 0x43600000#32 = ((224 : ℝ) : EReal) := by simp [Ideal.ofBits, Ideal.ieee, -EReal.coe_mul]; norm_num
theorem c_448 : Ideal.ofBits .f32 0x43E00000#32 = ((448 : ℝ) : EReal) := by simp [Ideal.ofBits, Ideal.ieee, -EReal.coe_mul]; norm_num
theorem c_1792 : Ideal.ofBits .f32 0x44E00000#32 = ((1792 : ℝ) : EReal) := by simp [Ideal.ofBits, Ideal.ieee, -EReal.coe_mul]; norm_num
theorem c_8 : Ideal.ofBits .f32 0x41000000#32 = pow2 3 := by simp [Ideal.ofBits, Ideal.ieee, -EReal.coe_mul]; norm_num
theorem c_lo : Ideal.ofBits .f32 0x01000000#32 = pow2 (-125) := by simp [Ideal.ofBits, Ideal.ieee, -EReal.coe_mul, -EReal.coe_pow]; norm_num
theorem c_min : Ideal.ofBits .f32 0x04E00000#32 = ((448 * (2 : ℝ) ^ (-126 : ℤ) : ℝ) : EReal) := by
  simp [Ideal.ofBits, Ideal.ieee, -EReal.coe_mul]; norm_num
theorem c_tiny : Ideal.ofBits .f32 0x00800000#32 = pow2 (-126) := by simp [Ideal.ofBits, Ideal.ieee, -EReal.coe_mul]; norm_num
theorem c_max : Ideal.ofBits .f32 0x7F7FFFFF#32 = (((2 ^ 24 - 1) * (2 : ℝ) ^ (104 : ℤ) : ℝ) : EReal) := by
  simp [Ideal.ofBits, Ideal.ieee, -EReal.coe_mul]; norm_num
theorem c_2 : Ideal.ofBits .f32 0x40000000#32 = pow2 1 := by simp [Ideal.ofBits, Ideal.ieee, -EReal.coe_mul]; norm_num
theorem c_4 : Ideal.ofBits .f32 0x40800000#32 = pow2 2 := by simp [Ideal.ofBits, Ideal.ieee, -EReal.coe_mul]; norm_num
theorem c_16 : Ideal.ofBits .f32 0x41800000#32 = pow2 4 := by simp [Ideal.ofBits, Ideal.ieee, -EReal.coe_mul]; norm_num
theorem c_256 : Ideal.ofBits .f32 0x43800000#32 = pow2 8 := by simp [Ideal.ofBits, Ideal.ieee, -EReal.coe_mul]; norm_num
theorem c_p16 : Ideal.ofBits .f32 0x47800000#32 = pow2 16 := by simp [Ideal.ofBits, Ideal.ieee, -EReal.coe_mul]; norm_num
theorem c_p32 : Ideal.ofBits .f32 0x4F800000#32 = pow2 32 := by simp [Ideal.ofBits, Ideal.ieee, -EReal.coe_mul]; norm_num
theorem c_p64 : Ideal.ofBits .f32 0x5F800000#32 = pow2 64 := by simp [Ideal.ofBits, Ideal.ieee, -EReal.coe_mul]; norm_num

/-- One comparison halves the exponent's uncertainty. -/
theorem rung_step (w : BitVec 32) (k : ℤ) (hw : Ideal.ofBits .f32 w = pow2 k) (r : ℝ) (z : ℤ)
    (h1 : 224 * (2 : ℝ) ^ z ≤ r) (h2 : r < 224 * (2 : ℝ) ^ (z + 2 * k)) :
    ∃ z' : ℤ, rungE w (r : EReal) (pow2 z) = pow2 z' ∧ 224 * (2 : ℝ) ^ z' ≤ r ∧ r < 224 * (2 : ℝ) ^ (z' + k) := by
  have e : pow2 z * Ideal.ofBits .f32 w = pow2 (z + k) := by
    rw [hw]; unfold pow2; rw [← EReal.coe_mul, ← zpow_add₀ (by norm_num)]
  unfold rungE
  rw [e, c_224, show pow2 (z + k) * ((224 : ℝ) : EReal) = (((2 : ℝ) ^ (z + k) * 224 : ℝ) : EReal) from (EReal.coe_mul _ _).symm]
  by_cases h : (2 : ℝ) ^ (z + k) * 224 ≤ r
  · rw [if_pos (EReal.coe_le_coe_iff.mpr h)]
    exact ⟨z + k, rfl, by linarith, by rw [show z + k + k = z + 2 * k by ring]; exact h2⟩
  · rw [if_neg (fun h' => h (EReal.coe_le_coe_iff.mp h'))]
    exact ⟨z, rfl, h1, by linarith⟩

/-- The comparisons find the power of two `2^z` with `224 * 2^z ≤ r < 448 * 2^z`. -/
theorem ladder_real (r : ℝ) (h1 : 448 * (2 : ℝ) ^ (-126 : ℤ) ≤ r) (h2 : r ≤ (2 ^ 24 - 1) * (2 : ℝ) ^ (104 : ℤ)) :
    ∃ z : ℤ, ladder (r : EReal) = pow2 z ∧ 224 * (2 : ℝ) ^ z ≤ r ∧ r < 224 * (2 : ℝ) ^ (z + 1) := by
  unfold ladder
  rw [if_pos ⟨by rw [c_min]; exact EReal.coe_le_coe_iff.mpr h1, by rw [c_max]; exact EReal.coe_le_coe_iff.mpr h2⟩]
  have h0 : ∃ z : ℤ, (if Ideal.ofBits .f32 0x44E00000#32 ≤ (r : EReal) then Ideal.ofBits .f32 0x41000000#32 else Ideal.ofBits .f32 0x01000000#32) = pow2 z
      ∧ 224 * (2 : ℝ) ^ z ≤ r ∧ r < 224 * (2 : ℝ) ^ (z + 2 * 64) := by
    rw [c_1792, c_8, c_lo]
    by_cases h : (1792 : ℝ) ≤ r
    · rw [if_pos (EReal.coe_le_coe_iff.mpr h)]
      exact ⟨3, rfl, by norm_num; linarith, lt_of_le_of_lt h2 (by norm_num)⟩
    · rw [if_neg (fun h' => h (EReal.coe_le_coe_iff.mp h'))]
      exact ⟨-125, rfl, le_trans (by norm_num) h1, lt_of_lt_of_le (not_le.mp h) (by norm_num)⟩
  obtain ⟨z, e, a, b⟩ := h0; rw [e]
  obtain ⟨z, e, a, b⟩ := rung_step _ 64 c_p64 r z a b; rw [e]
  obtain ⟨z, e, a, b⟩ := rung_step _ 32 c_p32 r z a b; rw [e]
  obtain ⟨z, e, a, b⟩ := rung_step _ 16 c_p16 r z a b; rw [e]
  obtain ⟨z, e, a, b⟩ := rung_step _ 8 c_256 r z a b; rw [e]
  obtain ⟨z, e, a, b⟩ := rung_step _ 4 c_16 r z a b; rw [e]
  obtain ⟨z, e, a, b⟩ := rung_step _ 2 c_4 r z a b; rw [e]
  obtain ⟨z, e, a, b⟩ := rung_step _ 1 c_2 r z a b
  exact ⟨z, e, a, b⟩

theorem div_448 (r : ℝ) : Ideal.div (r : EReal) (Ideal.ofBits .f32 0x43E00000#32) = ((r / 448 : ℝ) : EReal) := by
  rw [c_448]; unfold Ideal.div
  rw [if_neg (by rw [← EReal.coe_zero, EReal.coe_eq_coe_iff]; norm_num), ← EReal.coe_inv, ← EReal.coe_mul, div_eq_mul_inv]

theorem log_real (r : ℝ) (h : 0 < r) : Ideal.log (r : EReal) = ((Real.log r : ℝ) : EReal) := by
  show (if r ≤ 0 then ⊥ else ((Real.log r : ℝ) : EReal)) = _
  rw [if_neg (not_le.mpr h)]

/-- The reference's exponent is that power's. -/
theorem expo_real (r : ℝ) (h1 : 448 * (2 : ℝ) ^ (-126 : ℤ) ≤ r) (h2 : r ≤ (2 ^ 24 - 1) * (2 : ℝ) ^ (104 : ℤ)) (z : ℤ)
    (ha : 224 * (2 : ℝ) ^ z ≤ r) (hb : r < 224 * (2 : ℝ) ^ (z + 1)) : expo (r : EReal) = ((z : ℝ) : EReal) := by
  have hr : 0 < r := lt_of_lt_of_le (by positivity) h1
  have hl2 : 0 < Real.log 2 := Real.log_pos (by norm_num)
  unfold expo
  rw [div_448, c_tiny, c_max, c_2, if_pos ⟨EReal.coe_le_coe_iff.mpr (by rw [le_div_iff₀ (by norm_num)]; linarith [mul_comm (448 : ℝ) (2 ^ (-126 : ℤ))]), EReal.coe_le_coe_iff.mpr h2⟩,
    log_real _ (by positivity), show pow2 1 = ((2 : ℝ) : EReal) by simp [pow2], log_real 2 (by norm_num)]
  have hd : Ideal.div ((Real.log (r / 448) : ℝ) : EReal) ((Real.log 2 : ℝ) : EReal) = ((Real.log (r / 448) / Real.log 2 : ℝ) : EReal) := by
    unfold Ideal.div
    rw [if_neg (by rw [← EReal.coe_zero, EReal.coe_eq_coe_iff]; exact hl2.ne'), ← EReal.coe_inv, ← EReal.coe_mul, ← div_eq_mul_inv]
  rw [hd]
  have hf : ⌊Real.log (r / 448) / Real.log 2⌋ = z - 1 := by
    rw [Int.floor_eq_iff]
    have e1 : (2 : ℝ) ^ (z + 1) = 2 * 2 ^ z := by rw [zpow_add₀ (by norm_num)]; ring
    have e0 : (2 : ℝ) ^ (z - 1) = 2 ^ z / 2 := by rw [zpow_sub₀ (by norm_num)]; simp
    constructor
    · rw [le_div_iff₀ hl2]
      have := Real.log_le_log (by positivity) (show (2 : ℝ) ^ (z - 1) ≤ r / 448 by rw [e0]; linarith)
      rwa [Real.log_zpow] at this
    · rw [div_lt_iff₀ hl2]
      have := Real.log_lt_log (by positivity) (show r / 448 < (2 : ℝ) ^ z by rw [e1] at hb; linarith)
      rw [Real.log_zpow] at this
      push_cast; linarith
  show (((⌊Real.log (r / 448) / Real.log 2⌋ : ℤ) : ℝ) : EReal) + 1 = _
  rw [hf, show (1 : EReal) = ((1 : ℝ) : EReal) from rfl, ← EReal.coe_add]
  congr 1; push_cast; ring

theorem exp2_int (z : ℤ) : Ideal.exp2 ((z : ℝ) : EReal) = pow2 z := by
  show ((Real.rpow 2 (z : ℝ) : ℝ) : EReal) = _
  congr 1; exact Real.rpow_intCast 2 z

/-- THE SCALES AGREE: for a greatest magnitude `a`, both scales are one power of two, and the kernel's reciprocal is the
    reference's power of the negated exponent. -/
theorem scale_eq (a : EReal) (ha : 0 ≤ a) :
    Ideal.exp2 (expo a) = ladder a ∧ Ideal.exp2 (0 - expo a) = Ideal.div 1 (ladder a) := by
  have key : ∃ z : ℤ, expo a = ((z : ℝ) : EReal) ∧ ladder a = pow2 z := by
    induction a using EReal.rec with
    | bot => exact absurd ha (by simp)
    | top =>
      refine ⟨0, ?_, ?_⟩
      · unfold expo; rw [if_neg (by rw [c_max]; exact fun h => absurd h.2 (by rw [top_le_iff]; exact EReal.coe_ne_top _))]; simp
      · unfold ladder; rw [if_neg (by rw [c_max]; exact fun h => absurd h.2 (by rw [top_le_iff]; exact EReal.coe_ne_top _))]; simp [pow2]
    | coe r =>
      by_cases h : 448 * (2 : ℝ) ^ (-126 : ℤ) ≤ r ∧ r ≤ (2 ^ 24 - 1) * (2 : ℝ) ^ (104 : ℤ)
      · obtain ⟨z, e, p, q⟩ := ladder_real r h.1 h.2
        exact ⟨z, expo_real r h.1 h.2 z p q, e⟩
      · refine ⟨0, ?_, ?_⟩
        · unfold expo
          rw [if_neg (fun h' => h ⟨?_, ?_⟩)]; · simp
          · have := h'.1; rw [div_448, c_tiny, EReal.coe_le_coe_iff, le_div_iff₀ (by norm_num), mul_comm] at this; exact this
          · have := h'.2; rwa [c_max, EReal.coe_le_coe_iff] at this
        · unfold ladder
          rw [if_neg (fun h' => h ⟨?_, ?_⟩)]; · simp [pow2]
          · have := h'.1; rwa [c_min, EReal.coe_le_coe_iff] at this
          · have := h'.2; rwa [c_max, EReal.coe_le_coe_iff] at this
  obtain ⟨z, e, l⟩ := key
  rw [e, l, exp2_int]
  refine ⟨rfl, ?_⟩
  rw [zero_sub, ← EReal.coe_neg, ← Int.cast_neg, exp2_int]
  unfold Ideal.div pow2
  rw [if_neg (by rw [← EReal.coe_zero, EReal.coe_eq_coe_iff]; positivity), one_mul, ← EReal.coe_inv, zpow_neg]

/-- The greatest magnitude of 32 elements. -/
def amax (f : Fin 32 → EReal) : EReal := Finset.univ.fold max (⊥ : EReal) (fun i => max (f i) (-(f i)))

theorem amax_le (f : Fin 32 → EReal) (y : EReal) : amax f ≤ y ↔ ∀ i, max (f i) (-(f i)) ≤ y := by
  unfold amax; rw [Finset.fold_max_le]; simp

theorem amax_nonneg (f : Fin 32 → EReal) : 0 ≤ amax f := by
  have h := (amax_le f (amax f)).mp le_rfl 0
  refine le_trans ?_ h
  rcases le_total 0 (f 0) with h0 | h0
  · exact le_max_of_le_left h0
  · exact le_max_of_le_right (by rw [EReal.le_neg, neg_zero]; exact h0)

/-- The code of the element `v` of a block with scale `s`: the quotient within ±448. -/
def code (v s : EReal) : EReal :=
  min (Ideal.ofBits .f32 0x43E00000#32) (max (Ideal.ofBits .f32 0xC3E00000#32) (v * Ideal.div 1 s))

end Cert.Scale

end
-- ==== Proof.Lanes.lean ====
/-
  The quantiser of the kernel's body, element by element over the extended reals: the greatest magnitude of the block of
  32 lanes `g` of the column `j` lies in the lane `32 g + 16 (j mod 2) + 8 (j / 2)` of `blockMax` (`blockMax_apply`), its
  power of two is `Scale.ladder` of it (`scaleP_apply`), and the codes, the dequantised values and the scales are the
  plain quotient, product and power of the element's own block (`codesV_apply`, `deqV_apply`, `scV_apply`).
-/
module

public import proofs.«01_k».proof.Proof.Quant
public import proofs.«01_k».proof.Proof.Scale
public import Idealize.ShloMosaic.Lib.Pointwise

@[expose] public section

noncomputable section

namespace Cert.KernelIdeal.Hand

open Cert.KernelIdeal Cert.KernelIdeal.Gen Cert.Scale
open Idealize.ShloMosaic Idealize.ShloMosaic.TcCoe Idealize.ShloMosaic.Tactic

/-- Sixteen rows of 128 lanes. -/
abbrev V := FVec Ideal S16x128 .bf16

theorem sel_dec {α : Type} (p : Prop) [Decidable p] (a b : α) : Scalar.select (BitVec.ofBool (decide p)) a b = if p then a else b := by
  by_cases h : p <;> simp [Scalar.select, h]

theorem fin4 : ∀ j : Fin 4, j = 0 ∨ j = 1 ∨ j = 2 ∨ j = 3 := by decide
theorem fin2 : ∀ j : Fin 2, j = 0 ∨ j = 1 := by decide

/-! The exchanges and folds of lanes. -/

theorem clear16 : ∀ l : Fin 128, IntOp.cmpi .eq (IntOp.andi (BitVec.ofNat 32 l.val) 16#32) 0#32 = BitVec.ofBool (decide (l.val / 16 % 2 = 0)) := by decide
theorem clear8 : ∀ l : Fin 128, IntOp.cmpi .eq (IntOp.andi (BitVec.ofNat 32 l.val) 8#32) 0#32 = BitVec.ofBool (decide (l.val / 8 % 2 = 0)) := by decide

theorem par_row (a : V) (r : Fin 16) (l : Fin 128) :
    (if r.val % 2 = 0 then a (ix2 ⟨2 * (r.val / 2), by omega⟩ l) else a (ix2 ⟨2 * (r.val / 2) + 1, by omega⟩ l)) = a (ix2 r l) := by
  split
  · congr 2; exact Fin.ext (by show 2 * (r.val / 2) = r.val; omega)
  · congr 2; exact Fin.ext (by show 2 * (r.val / 2) + 1 = r.val; omega)

theorem fold_1 (a : V) (r : Fin 16) (l : Fin 128) :
    fold 127#32 a (ix2 r l) = max (a (ix2 r l) : EReal) (a (ix2 r ⟨(l.val + 128 - 127) % 128, Nat.mod_lt _ (by norm_num)⟩)) := by
  pointwise [fold]
  rw [par_row a r l, par_row a r ⟨(l.val + 128 - 127) % 128, Nat.mod_lt _ (by norm_num)⟩]
theorem fold_2 (a : V) (r : Fin 16) (l : Fin 128) :
    fold 126#32 a (ix2 r l) = max (a (ix2 r l) : EReal) (a (ix2 r ⟨(l.val + 128 - 126) % 128, Nat.mod_lt _ (by norm_num)⟩)) := by
  pointwise [fold]
  rw [par_row a r l, par_row a r ⟨(l.val + 128 - 126) % 128, Nat.mod_lt _ (by norm_num)⟩]
theorem fold_4 (a : V) (r : Fin 16) (l : Fin 128) :
    fold 124#32 a (ix2 r l) = max (a (ix2 r l) : EReal) (a (ix2 r ⟨(l.val + 128 - 124) % 128, Nat.mod_lt _ (by norm_num)⟩)) := by
  pointwise [fold]
  rw [par_row a r l, par_row a r ⟨(l.val + 128 - 124) % 128, Nat.mod_lt _ (by norm_num)⟩]

theorem exch_16 (a b : V) (r : Fin 16) (l : Fin 128) :
    exch 16#32 112#32 a b (ix2 r l) = if l.val / 16 % 2 = 0 then max (a (ix2 r l) : EReal) (a (ix2 r ⟨(l.val + 128 - 112) % 128, Nat.mod_lt _ (by norm_num)⟩))
      else max (b (ix2 r ⟨(l.val + 128 - 16) % 128, Nat.mod_lt _ (by norm_num)⟩) : EReal) (b (ix2 r l)) := by
  pointwise [exch, clear]
  simp only [clear16, sel_dec]
  by_cases h : l.val / 16 % 2 = 0
  · simp only [h, if_true]
    rw [par_row a r l, par_row a r ⟨(l.val + 128 - 112) % 128, Nat.mod_lt _ (by norm_num)⟩]
  · simp only [h, if_false]
    rw [par_row b r l, par_row b r ⟨(l.val + 128 - 16) % 128, Nat.mod_lt _ (by norm_num)⟩]
theorem exch_8 (a b : V) (r : Fin 16) (l : Fin 128) :
    exch 8#32 120#32 a b (ix2 r l) = if l.val / 8 % 2 = 0 then max (a (ix2 r l) : EReal) (a (ix2 r ⟨(l.val + 128 - 120) % 128, Nat.mod_lt _ (by norm_num)⟩))
      else max (b (ix2 r ⟨(l.val + 128 - 8) % 128, Nat.mod_lt _ (by norm_num)⟩) : EReal) (b (ix2 r l)) := by
  pointwise [exch, clear]
  simp only [clear8, sel_dec]
  by_cases h : l.val / 8 % 2 = 0
  · simp only [h, if_true]
    rw [par_row a r l, par_row a r ⟨(l.val + 128 - 120) % 128, Nat.mod_lt _ (by norm_num)⟩]
  · simp only [h, if_false]
    rw [par_row b r l, par_row b r ⟨(l.val + 128 - 8) % 128, Nat.mod_lt _ (by norm_num)⟩]

/-- The lane `n` of row `r`. -/
abbrev ln (a : V) (r : Fin 16) (n : ℕ) (h : n < 128) : EReal := a (ix2 r ⟨n, h⟩)

theorem ln_eq (a : V) (r : Fin 16) (n n' : ℕ) (h : n < 128) (h' : n' < 128) (e : n = n') : ln a r n h = ln a r n' h' := by subst e; rfl

theorem fold1_le (a : V) (r : Fin 16) (n : ℕ) (h : n + 1 < 128) (y : EReal) :
    ln (fold 127#32 a) r n (by omega) ≤ y ↔ ln a r n (by omega) ≤ y ∧ ln a r (n + 1) h ≤ y := by
  show (fold 127#32 a (ix2 r ⟨n, _⟩) : EReal) ≤ y ↔ _
  rw [fold_1, max_le_iff]
  rw [← ln_eq a r ((n + 128 - 127) % 128) (n + 1) (Nat.mod_lt _ (by norm_num)) h (by omega)]
theorem fold2_le (a : V) (r : Fin 16) (n : ℕ) (h : n + 2 < 128) (y : EReal) :
    ln (fold 126#32 a) r n (by omega) ≤ y ↔ ln a r n (by omega) ≤ y ∧ ln a r (n + 2) h ≤ y := by
  show (fold 126#32 a (ix2 r ⟨n, _⟩) : EReal) ≤ y ↔ _
  rw [fold_2, max_le_iff]
  rw [← ln_eq a r ((n + 128 - 126) % 128) (n + 2) (Nat.mod_lt _ (by norm_num)) h (by omega)]
theorem fold4_le (a : V) (r : Fin 16) (n : ℕ) (h : n + 4 < 128) (y : EReal) :
    ln (fold 124#32 a) r n (by omega) ≤ y ↔ ln a r n (by omega) ≤ y ∧ ln a r (n + 4) h ≤ y := by
  show (fold 124#32 a (ix2 r ⟨n, _⟩) : EReal) ≤ y ↔ _
  rw [fold_4, max_le_iff]
  rw [← ln_eq a r ((n + 128 - 124) % 128) (n + 4) (Nat.mod_lt _ (by norm_num)) h (by omega)]

/-- The three folds are the maximum of eight lanes. -/
theorem fold8_le (a : V) (r : Fin 16) (n : ℕ) (h : n + 7 < 128) (y : EReal) :
    ln (fold 127#32 (fold 126#32 (fold 124#32 a))) r n (by omega) ≤ y ↔ ∀ i, (hi : i < 8) → ln a r (n + i) (by omega) ≤ y := by
  rw [fold1_le _ _ _ (by omega), fold2_le _ _ _ (by omega), fold2_le _ _ _ (by omega), fold4_le _ _ _ (by omega), fold4_le _ _ _ (by omega),
    fold4_le _ _ _ (by omega), fold4_le _ _ _ (by omega)]
  constructor
  · rintro ⟨⟨⟨h0, h4⟩, h2, h6⟩, ⟨h1, h5⟩, h3, h7⟩ i hi
    interval_cases i <;> assumption
  · intro H
    exact ⟨⟨⟨H 0 (by omega), H 4 (by omega)⟩, H 2 (by omega), H 6 (by omega)⟩, ⟨H 1 (by omega), H 5 (by omega)⟩, H 3 (by omega), H 7 (by omega)⟩

theorem exch16_lo (a b : V) (r : Fin 16) (n : ℕ) (h : n + 16 < 128) (hb : n / 16 % 2 = 0) (y : EReal) :
    ln (exch 16#32 112#32 a b) r n (by omega) ≤ y ↔ ln a r n (by omega) ≤ y ∧ ln a r (n + 16) h ≤ y := by
  show (exch 16#32 112#32 a b (ix2 r ⟨n, _⟩) : EReal) ≤ y ↔ _
  rw [exch_16, if_pos hb, max_le_iff]
  rw [← ln_eq a r ((n + 128 - 112) % 128) (n + 16) (Nat.mod_lt _ (by norm_num)) h (by omega)]
theorem exch16_hi (a b : V) (r : Fin 16) (n : ℕ) (h : n + 16 < 128) (hb : n / 16 % 2 = 0) (y : EReal) :
    ln (exch 16#32 112#32 a b) r (n + 16) h ≤ y ↔ ln b r n (by omega) ≤ y ∧ ln b r (n + 16) h ≤ y := by
  show (exch 16#32 112#32 a b (ix2 r ⟨n + 16, _⟩) : EReal) ≤ y ↔ _
  rw [exch_16, if_neg (by show ¬ (n + 16) / 16 % 2 = 0; omega), max_le_iff]
  rw [← ln_eq b r ((n + 16 + 128 - 16) % 128) n (Nat.mod_lt _ (by norm_num)) (by omega) (by omega)]
theorem exch8_lo (a b : V) (r : Fin 16) (n : ℕ) (h : n + 8 < 128) (hb : n / 8 % 2 = 0) (y : EReal) :
    ln (exch 8#32 120#32 a b) r n (by omega) ≤ y ↔ ln a r n (by omega) ≤ y ∧ ln a r (n + 8) h ≤ y := by
  show (exch 8#32 120#32 a b (ix2 r ⟨n, _⟩) : EReal) ≤ y ↔ _
  rw [exch_8, if_pos hb, max_le_iff]
  rw [← ln_eq a r ((n + 128 - 120) % 128) (n + 8) (Nat.mod_lt _ (by norm_num)) h (by omega)]
theorem exch8_hi (a b : V) (r : Fin 16) (n : ℕ) (h : n + 8 < 128) (hb : n / 8 % 2 = 0) (y : EReal) :
    ln (exch 8#32 120#32 a b) r (n + 8) h ≤ y ↔ ln b r n (by omega) ≤ y ∧ ln b r (n + 8) h ≤ y := by
  show (exch 8#32 120#32 a b (ix2 r ⟨n + 8, _⟩) : EReal) ≤ y ↔ _
  rw [exch_8, if_neg (by show ¬ (n + 8) / 8 % 2 = 0; omega), max_le_iff]
  rw [← ln_eq b r ((n + 8 + 128 - 8) % 128) n (Nat.mod_lt _ (by norm_num)) (by omega) (by omega)]

/-- Doubling a run: the lower lanes and the lanes one run further on are the run of twice the length. -/
theorem run_double (P : ℕ → Prop) (w : ℕ) : (∀ i, i < w → P i ∧ P (i + w)) ↔ ∀ i, i < 2 * w → P i := by
  constructor
  · intro H i hi
    by_cases h : i < w
    · exact (H i h).1
    · have := (H (i - w) (by omega)).2
      rwa [show i - w + w = i by omega] at this
  · exact fun H i hi => ⟨H i (by omega), H (i + w) (by omega)⟩

/-- The run of 32 lanes from `32 g`. -/
def runLe (a : V) (r : Fin 16) (g : Fin 4) (y : EReal) : Prop := ∀ i, (hi : i < 32) → ln a r (g.val * 32 + i) (by omega) ≤ y

/-- The lane in a block of 32 where the greatest magnitude of column `j` lies. -/
def place (j : Fin 4) : ℕ := ![0, 16, 8, 24] j

theorem place_le (j : Fin 4) : place j ≤ 24 := by revert j; decide
theorem place_lt (j g : Fin 4) : g.val * 32 + place j < 128 := by revert j g; decide

theorem run_of (a : V) (r : Fin 16) (g : Fin 4) (y : EReal) :
    (∀ i, (hi : i < 8) → (ln a r (g.val * 32 + i) (by omega) ≤ y ∧ ln a r (g.val * 32 + i + 16) (by omega) ≤ y)
      ∧ (ln a r (g.val * 32 + i + 8) (by omega) ≤ y ∧ ln a r (g.val * 32 + i + 8 + 16) (by omega) ≤ y)) ↔ runLe a r g y := by
  constructor
  · intro H i hi
    have H' := H (i % 8) (by omega)
    rcases (show i = i % 8 ∨ i = i % 8 + 16 ∨ i = i % 8 + 8 ∨ i = i % 8 + 8 + 16 by omega) with e | e | e | e
    · rw [ln_eq a r _ _ _ (by omega) (show g.val * 32 + i = g.val * 32 + i % 8 by omega)]; exact H'.1.1
    · rw [ln_eq a r _ _ _ (by omega) (show g.val * 32 + i = g.val * 32 + i % 8 + 16 by omega)]; exact H'.1.2
    · rw [ln_eq a r _ _ _ (by omega) (show g.val * 32 + i = g.val * 32 + i % 8 + 8 by omega)]; exact H'.2.1
    · rw [ln_eq a r _ _ _ (by omega) (show g.val * 32 + i = g.val * 32 + i % 8 + 8 + 16 by omega)]; exact H'.2.2
  · intro H i hi
    refine ⟨⟨H i (by omega), ?_⟩, ?_, ?_⟩
    · exact H (i + 16) (by omega)
    · exact H (i + 8) (by omega)
    · exact H (i + 8 + 16) (by omega)

theorem blockMax_le (x : Fin 4 → V) (j g : Fin 4) (r : Fin 16) (y : EReal) :
    ln (blockMax (x 0) (x 1) (x 2) (x 3)) r (g.val * 32 + place j) (by have := place_lt j g; omega) ≤ y ↔ runLe (absf (x j)) r g y := by
  unfold blockMax
  rw [← run_of]
  rw [fold8_le _ _ _ (by have := place_le j; omega)]
  refine forall_congr' fun i => forall_congr' fun hi => ?_
  rcases fin4 j with rfl | rfl | rfl | rfl
  · rw [ln_eq _ r _ (g.val * 32 + i) _ (by omega) (show g.val * 32 + place 0 + i = _ by rw [show place 0 = 0 from rfl]; omega), exch8_lo _ _ _ _ (by omega) (by omega),
      exch16_lo _ _ _ _ (by omega) (by omega), exch16_lo _ _ _ _ (by omega) (by omega)]
  · rw [ln_eq _ r _ (g.val * 32 + i + 16) _ (by omega) (show g.val * 32 + place 1 + i = _ by rw [show place 1 = 16 from rfl]; omega), exch8_lo _ _ _ _ (by omega) (by omega),
      exch16_hi _ _ _ _ (by omega) (by omega), ln_eq _ r _ (g.val * 32 + i + 8 + 16) _ (by omega) (show g.val * 32 + i + 16 + 8 = _ by omega),
      exch16_hi _ _ _ _ (by omega) (by omega)]
  · rw [ln_eq _ r _ (g.val * 32 + i + 8) _ (by omega) (show g.val * 32 + place 2 + i = _ by rw [show place 2 = 8 from rfl]; omega), exch8_hi _ _ _ _ (by omega) (by omega),
      exch16_lo _ _ _ _ (by omega) (by omega), exch16_lo _ _ _ _ (by omega) (by omega)]
  · rw [ln_eq _ r _ (g.val * 32 + i + 16 + 8) _ (by omega) (show g.val * 32 + place 3 + i = _ by rw [show place 3 = 24 from rfl]; omega), exch8_hi _ _ _ _ (by omega) (by omega),
      exch16_hi _ _ _ _ (by omega) (by omega), ln_eq _ r _ (g.val * 32 + i + 8 + 16) _ (by omega) (show g.val * 32 + i + 16 + 8 = _ by omega),
      exch16_hi _ _ _ _ (by omega) (by omega)]

/-- Block `g` of row `r` of a column. -/
abbrev cblk (a : V) (r : Fin 16) (g : Fin 4) : Fin 32 → EReal := fun i => a (ix2 r ⟨g.val * 32 + i.val, by omega⟩)

/-- Where a block's greatest magnitude lies. -/
theorem blockMax_apply (x : Fin 4 → V) (j g : Fin 4) (r : Fin 16) :
    blockMax (x 0) (x 1) (x 2) (x 3) (ix2 r ⟨g.val * 32 + place j, place_lt j g⟩) = amax (cblk (x j) r g) := by
  refine eq_of_forall_ge_iff fun y => ?_
  rw [amax_le]
  refine (blockMax_le x j g r y).trans ?_
  constructor
  · exact fun H i => H i.val i.isLt
  · exact fun H i hi => H ⟨i, hi⟩

/-! The scales. -/

theorem rung_apply (w : BitVec 32) (m s : FVec Ideal S8x128 .f32) (r : Fin 8) (l : Fin 128) :
    rung w m s (ix2 r l) = rungE w (m (ix2 r l)) (s (ix2 r l)) := by
  pointwise [rung]
  rfl

theorem first_apply (m : FVec Ideal S8x128 .f32) (r : Fin 8) (l : Fin 128) :
    select (cmpf CmpFPredicate.oge m (broadcast S8x128 (Ideal.ofBits FTy.f32 1155530752#32))) (broadcast S8x128 (Ideal.ofBits FTy.f32 1090519040#32))
      (broadcast S8x128 (Ideal.ofBits FTy.f32 16777216#32)) (ix2 r l)
    = if Ideal.ofBits .f32 0x44E00000#32 ≤ m (ix2 r l) then Ideal.ofBits .f32 0x41000000#32 else Ideal.ofBits .f32 0x01000000#32 := by
  pointwise []

theorem scaleV_apply (m : FVec Ideal S8x128 .f32) (r : Fin 8) (l : Fin 128) : scaleV m (ix2 r l) = ladder (m (ix2 r l)) := by
  pointwise [scaleV]
  simp only [rung_apply, first_apply]
  unfold ladder Scalar.select
  by_cases h1 : Ideal.ofBits FTy.f32 81788928#32 ≤ m (ix2 r l) <;>
    by_cases h2 : m (ix2 r l) ≤ Ideal.ofBits FTy.f32 2139095039#32 <;> simp [h1, h2, IntOp.andi]

/-- Row `2 r + p`. -/
abbrev prow (p : Fin 2) (r : Fin 8) : Fin 16 := ⟨2 * r.val + p.val, by omega⟩

theorem scaleP_apply (x : Fin 4 → V) (p : Fin 2) (j g : Fin 4) (r : Fin 8) :
    scaleP p (x 0) (x 1) (x 2) (x 3) (ix2 r ⟨g.val * 32 + place j, place_lt j g⟩) = ladder (amax (cblk (x j) (prow p r) g)) := by
  unfold scaleP
  rw [scaleV_apply, ← blockMax_apply]
  generalize blockMax (x 0) (x 1) (x 2) (x 3) = b
  congr 1
  rcases fin2 p with rfl | rfl
  · pointwise []
    rfl
  · pointwise []
    rfl

/-! The gathers. -/

theorem col0 : ∀ l : Fin 128, (Scalar.select (IntOp.cmpi .slt (IntOp.addi (IntOp.andi (BitVec.ofNat 32 l.val) 96#32) 0#32) 0#32)
    (IntOp.addi (IntOp.addi (IntOp.andi (BitVec.ofNat 32 l.val) 96#32) 0#32) 128#32) (IntOp.addi (IntOp.andi (BitVec.ofNat 32 l.val) 96#32) 0#32)).toNat % 128 = l.val / 32 * 32 + place 0 := by decide
theorem col16 : ∀ l : Fin 128, (Scalar.select (IntOp.cmpi .slt (IntOp.addi (IntOp.andi (BitVec.ofNat 32 l.val) 96#32) 16#32) 0#32)
    (IntOp.addi (IntOp.addi (IntOp.andi (BitVec.ofNat 32 l.val) 96#32) 16#32) 128#32) (IntOp.addi (IntOp.andi (BitVec.ofNat 32 l.val) 96#32) 16#32)).toNat % 128 = l.val / 32 * 32 + place 1 := by decide
theorem col8 : ∀ l : Fin 128, (Scalar.select (IntOp.cmpi .slt (IntOp.addi (IntOp.andi (BitVec.ofNat 32 l.val) 96#32) 8#32) 0#32)
    (IntOp.addi (IntOp.addi (IntOp.andi (BitVec.ofNat 32 l.val) 96#32) 8#32) 128#32) (IntOp.addi (IntOp.andi (BitVec.ofNat 32 l.val) 96#32) 8#32)).toNat % 128 = l.val / 32 * 32 + place 2 := by decide
theorem col24 : ∀ l : Fin 128, (Scalar.select (IntOp.cmpi .slt (IntOp.addi (IntOp.andi (BitVec.ofNat 32 l.val) 96#32) 24#32) 0#32)
    (IntOp.addi (IntOp.addi (IntOp.andi (BitVec.ofNat 32 l.val) 96#32) 24#32) 128#32) (IntOp.addi (IntOp.andi (BitVec.ofNat 32 l.val) 96#32) 24#32)).toNat % 128 = l.val / 32 * 32 + place 3 := by decide

/-- The offset of column `j`'s scales. -/
def colOf (j : Fin 4) : BitVec 32 := ![0#32, 16#32, 8#32, 24#32] j

/-- The block of 32 a lane is in. -/
abbrev grp (l : Fin 128) : Fin 4 := ⟨l.val / 32, by omega⟩

theorem gat_col (s : FVec Ideal S8x128 .f32) (j : Fin 4) (r : Fin 8) (l : Fin 128) :
    gat s (col (colOf j)) (ix2 r l) = s (ix2 r ⟨(grp l).val * 32 + place j, place_lt j _⟩) := by
  rcases fin4 j with rfl | rfl | rfl | rfl
  · show gat s (col 0#32) (ix2 r l) = _
    pointwise [gat, col]; simp only [col0]
  · show gat s (col 16#32) (ix2 r l) = _
    pointwise [gat, col]; simp only [col16]
  · show gat s (col 8#32) (ix2 r l) = _
    pointwise [gat, col]; simp only [col8]
  · show gat s (col 24#32) (ix2 r l) = _
    pointwise [gat, col]; simp only [col24]

/-- The column and the block a lane of the scales' block belongs to. -/
abbrev qcol (l : Fin 128) : Fin 4 := ⟨l.val % 16 / 4, by omega⟩
abbrev qblk (l : Fin 128) : Fin 4 := ⟨l.val % 4, by omega⟩

theorem sc_lane : ∀ l : Fin 128, (Scalar.select
                (IntOp.cmpi CmpIPredicate.slt
                  (IntOp.addi
                    (IntOp.addi (IntOp.muli (32#32) (IntOp.andi (IntOp.andi (BitVec.ofNat 32 l.val) 15#32) 3#32))
                      (IntOp.muli (16#32)
                        (IntOp.andi (IntOp.shrsi ArithUnit.vector (IntOp.andi (BitVec.ofNat 32 l.val) 15#32) 2#32) 1#32)))
                    (IntOp.muli (8#32) (IntOp.shrsi ArithUnit.vector (IntOp.andi (BitVec.ofNat 32 l.val) 15#32) 3#32)))
                  0#32)
                (IntOp.addi
                  (IntOp.addi
                    (IntOp.addi (IntOp.muli (32#32) (IntOp.andi (IntOp.andi (BitVec.ofNat 32 l.val) 15#32) 3#32))
                      (IntOp.muli (16#32)
                        (IntOp.andi (IntOp.shrsi ArithUnit.vector (IntOp.andi (BitVec.ofNat 32 l.val) 15#32) 2#32) 1#32)))
                    (IntOp.muli (8#32) (IntOp.shrsi ArithUnit.vector (IntOp.andi (BitVec.ofNat 32 l.val) 15#32) 3#32)))
                  128#32)
                (IntOp.addi
                  (IntOp.addi (IntOp.muli (32#32) (IntOp.andi (IntOp.andi (BitVec.ofNat 32 l.val) 15#32) 3#32))
                    (IntOp.muli (16#32)
                      (IntOp.andi (IntOp.shrsi ArithUnit.vector (IntOp.andi (BitVec.ofNat 32 l.val) 15#32) 2#32) 1#32)))
                  (IntOp.muli (8#32)
                    (IntOp.shrsi ArithUnit.vector (IntOp.andi (BitVec.ofNat 32 l.val) 15#32) 3#32)))).toNat %
            128 = (qblk l).val * 32 + place (qcol l) := by decide

theorem gat_scLane (s : FVec Ideal S8x128 .f32) (r : Fin 8) (l : Fin 128) :
    gat s scLane (ix2 r l) = s (ix2 r ⟨(qblk l).val * 32 + place (qcol l), place_lt _ _⟩) := by
  pointwise [gat, scLane]
  simp only [sc_lane]

theorem codesV_gen (x : V) (lo hi : FVec Ideal S8x128 .f32) (i : IVec S8x128 32) (r : Fin 16) (l : Fin 128) :
    codesV x lo hi i (ix2 r l) = code (x (ix2 r l)) (if r.val % 2 = 0 then gat lo i (ix2 ⟨r.val / 2, by omega⟩ l) else gat hi i (ix2 ⟨r.val / 2, by omega⟩ l)) := by
  pointwise [codesV, recV]
  unfold code
  split <;> rfl

theorem scV_gen (lo hi : FVec Ideal S8x128 .f32) (i : IVec S8x128 32) (r : Fin 16) (l : Fin 128) :
    scV lo hi i (ix2 r l) = if r.val % 2 = 0 then gat lo i (ix2 ⟨r.val / 2, by omega⟩ l) else gat hi i (ix2 ⟨r.val / 2, by omega⟩ l) := by
  pointwise [scV]

theorem deqV_gen (x : V) (lo hi : FVec Ideal S8x128 .f32) (i : IVec S8x128 32) (r : Fin 16) (l : Fin 128) :
    deqV x lo hi i (ix2 r l) = (codesV x lo hi i (ix2 r l) : EReal) * scV lo hi i (ix2 r l) := by
  generalize hc : codesV x lo hi i = c
  generalize hs : scV lo hi i = s
  have : deqV x lo hi i = mulf (extf .bf16 c bitsLt_fp8e4m3_bf16) s := by rw [← hc, ← hs]; rfl
  rw [this]
  pointwise []

/-! The three results at an element. -/

/-- The scale of the block of a row of a column. -/
abbrev bsc (a : V) (r : Fin 16) (g : Fin 4) : EReal := ladder (amax (cblk a r g))

theorem rows (x : Fin 4 → V) (j : Fin 4) (r : Fin 16) (g : Fin 4) :
    (if r.val % 2 = 0 then scaleP 0 (x 0) (x 1) (x 2) (x 3) (ix2 ⟨r.val / 2, by omega⟩ ⟨g.val * 32 + place j, place_lt j g⟩)
      else scaleP 1 (x 0) (x 1) (x 2) (x 3) (ix2 ⟨r.val / 2, by omega⟩ ⟨g.val * 32 + place j, place_lt j g⟩)) = bsc (x j) r g := by
  rw [scaleP_apply, scaleP_apply]
  split
  · rw [show prow 0 ⟨r.val / 2, by omega⟩ = r from Fin.ext (by show 2 * (r.val / 2) + 0 = r.val; omega)]
  · rw [show prow 1 ⟨r.val / 2, by omega⟩ = r from Fin.ext (by show 2 * (r.val / 2) + 1 = r.val; omega)]

theorem codesV_apply (x : Fin 4 → V) (j : Fin 4) (r : Fin 16) (l : Fin 128) :
    codesV (x j) (scaleP 0 (x 0) (x 1) (x 2) (x 3)) (scaleP 1 (x 0) (x 1) (x 2) (x 3)) (col (colOf j)) (ix2 r l) = code (x j (ix2 r l)) (bsc (x j) r (grp l)) := by
  rw [codesV_gen, gat_col, gat_col, rows]

theorem deqV_apply (x : Fin 4 → V) (j : Fin 4) (r : Fin 16) (l : Fin 128) :
    deqV (x j) (scaleP 0 (x 0) (x 1) (x 2) (x 3)) (scaleP 1 (x 0) (x 1) (x 2) (x 3)) (col (colOf j)) (ix2 r l)
      = code (x j (ix2 r l)) (bsc (x j) r (grp l)) * bsc (x j) r (grp l) := by
  rw [deqV_gen, codesV_apply, scV_gen, gat_col, gat_col, rows]

theorem scV_apply (x : Fin 4 → V) (r : Fin 16) (l : Fin 128) :
    scV (scaleP 0 (x 0) (x 1) (x 2) (x 3)) (scaleP 1 (x 0) (x 1) (x 2) (x 3)) scLane (ix2 r l) = bsc (x (qcol l)) r (qblk l) := by
  rw [scV_gen, gat_scLane, gat_scLane, rows]

end Cert.KernelIdeal.Hand

end
-- ==== Proof.Tile.lean ====
/-
  One trip of the row loop, whatever the block's row count: thirty-two rows of a block of 512 columns, as two halves of
  sixteen rows by four columns of 128 lanes. What the stores of a trip hold and where they lie, in terms of the block.
-/
module

public import proofs.«01_k».proof.Proof.Lanes
public import Idealize.ShloMosaic.Lib.WritesUnit

@[expose] public section

noncomputable section

namespace Cert.KernelIdeal.Hand

open Cert.KernelIdeal Cert.KernelIdeal.Gen Cert.Scale
open Idealize.ShloMosaic Idealize.ShloMosaic.TcCoe Idealize.ShloMosaic.Tactic

/-- A block of `R` rows and 512 columns. -/
abbrev BR (R : ℕ) := FVec Ideal ⟨2, ![R, 512]⟩ .bf16

/-- Block of 32 number `b` of row `r`. -/
abbrev bblk {R : ℕ} (x : BR R) (r : Fin R) (b : Fin 16) : Fin 32 → EReal := fun i => x (ix2 r ⟨b.val * 32 + i.val, by omega⟩)
/-- Its scale. -/
abbrev bscale {R : ℕ} (x : BR R) (r : Fin R) (b : Fin 16) : EReal := ladder (amax (bblk x r b))
/-- The code of an element. -/
def codeAt {R : ℕ} (x : BR R) (r : Fin R) (c : Fin 512) : EReal := code (x (ix2 r c)) (bscale x r ⟨c.val / 32, by omega⟩)
/-- Its dequantised value. -/
def deqAt {R : ℕ} (x : BR R) (r : Fin R) (c : Fin 512) : EReal := codeAt x r c * bscale x r ⟨c.val / 32, by omega⟩

theorem readAt_unit {σ : RefSig} {d : Fin 2 → ℕ} {e : EltTy} (m : Memref σ .tc .vmem ⟨2, d⟩ e) (f : BufTy.Contents (Elt Ideal) m.view.ty) (off size : Fin 2 → ℕ)
    (inb : ∀ a, off a + size a ≤ (⟨2, d⟩ : Shape).size a) (y : (Rect.unit (s := ⟨2, d⟩) off size inb).shape.Idx) (z : (⟨2, d⟩ : Shape).Idx)
    (hz : ∀ a, (z a).val = off a + (y a).val) :
    m.view.readAt (Elt Ideal) (Rect.unit (s := ⟨2, d⟩) off size inb).toLoadRect f y = m.view.read (Elt Ideal) f z := by
  have : z = (Rect.unit (s := ⟨2, d⟩) off size inb).emb y := funext fun a => Fin.ext (by
    show (z a).val = off a + 1 * (y a).val
    rw [hz a, Nat.one_mul])
  rw [this]; rfl

theorem ix2_eta {d : Fin 2 → ℕ} (x : (⟨2, d⟩ : Shape).Idx) (y : (⟨2, d⟩ : Shape).Idx) (h0 : (x 0).val = (y 0).val) (h1 : (x 1).val = (y 1).val) : x = y :=
  funext (Fin.forall_fin_two.mpr ⟨Fin.ext h0, Fin.ext h1⟩)

/-- A list of stores that agree with `G`, whose places are those `P` tells. -/
theorem read_pieces {σ : RefSig} {s : Shape} {e : EltTy} {sp : Space} {κ : Kind} (v : View σ κ sp s e) (f : v.ty.Contents (Elt Ideal)) (L : List (View.Piece (Elt Ideal) s e))
    (G : s.Idx → Elt Ideal e) (P : s.Idx → Prop) [DecidablePred P] (hG : ∀ p ∈ L, ∀ x : p.1.shape.Idx, p.2 x = G (p.1.emb x) ∧ P (p.1.emb x))
    (hc : ∀ y, P y → ∃ p ∈ L, y ∈ p.1.set) (y : s.Idx) :
    v.read (Elt Ideal) (v.writes (Elt Ideal) f L) y = if P y then G y else v.read (Elt Ideal) f y := by
  by_cases h : P y
  · rw [if_pos h]
    exact View.read_writes_apply_of_pieces v f G L (fun p hp x => (hG p hp x).1) y (hc y h)
  · rw [if_neg h]
    refine View.read_writes_apply_of_forall_not_mem v f y L fun p hp hm => h ?_
    obtain ⟨x, rfl⟩ := p.1.exists_idx_of_mem hm
    exact (hG p hp x).2

/-- Row `r` of half `h` of trip `k`, lane `l` of column `j`. -/
abbrev trow {R k : ℕ} (hk : 32 * k + 32 ≤ R) (h : Fin 2) (r : Fin 16) : Fin R := ⟨32 * k + 16 * h.val + r.val, by omega⟩
abbrev tcol (j : Fin 4) (l : Fin 128) : Fin 512 := ⟨128 * j.val + l.val, by omega⟩

theorem blk_ix (j : Fin 4) (l : Fin 128) : (⟨4 * j.val + (grp l).val, by omega⟩ : Fin 16) = ⟨(tcol j l).val / 32, by omega⟩ :=
  Fin.ext (by show 4 * j.val + l.val / 32 = (128 * j.val + l.val) / 32; omega)

/-- The scales of a half trip, by parity. -/
abbrev lo (x : Fin 4 → V) := scaleP 0 (x 0) (x 1) (x 2) (x 3)
abbrev hi (x : Fin 4 → V) := scaleP 1 (x 0) (x 1) (x 2) (x 3)

/-- The lane of an index of the scales' block. -/
abbrev lane {R : ℕ} (y : (⟨2, ![R, 128]⟩ : Shape).Idx) : Fin 128 := y 1

theorem fin2_all {p : Fin 2 → Prop} (h0 : p 0) (h1 : p 1) (h : Fin 2) : p h := by
  rcases fin2 h with rfl | rfl
  exacts [h0, h1]
theorem fin4_all {p : Fin 4 → Prop} (h0 : p 0) (h1 : p 1) (h2 : p 2) (h3 : p 3) (j : Fin 4) : p j := by
  rcases fin4 j with rfl | rfl | rfl | rfl
  exacts [h0, h1, h2, h3]

/-- An index lies in a rectangle of `a` rows and 128 lanes. -/
theorem mem_rect {R C a : ℕ} (off : Fin 2 → ℕ) (o0 o1 : ℕ) (hoff : off = ![o0, o1]) (inb : ∀ i, off i + (![a, 128] : Fin 2 → ℕ) i ≤ (⟨2, ![R, C]⟩ : Shape).size i)
    (y : (⟨2, ![R, C]⟩ : Shape).Idx) (h0 : o0 ≤ (y 0).val ∧ (y 0).val < o0 + a) (h1 : o1 ≤ (y 1).val ∧ (y 1).val < o1 + 128) :
    y ∈ (Rect.unit (s := ⟨2, ![R, C]⟩) off ![a, 128] inb).set := by
  subst hoff
  exact Rect.mem_set_unit.mpr (Fin.forall_fin_two.mpr ⟨h0, h1⟩)

/-- A trip's share joined to the trips' before. -/
theorem upto_step {α : Type} (a n : ℕ) (u v : α) : (if a = n then u else if a < n then u else v) = if a < n + 1 then u else v := by
  by_cases h1 : a = n
  · rw [if_pos h1, if_pos (by omega)]
  · rw [if_neg h1]
    by_cases h2 : a < n
    · rw [if_pos h2, if_pos (by omega)]
    · rw [if_neg h2, if_neg (by omega)]

/-- The same where a trip's share keeps what was there off the places `q`. -/
theorem upto_step_some {α : Type} (a n : ℕ) (q : Prop) [Decidable q] (u v : α) :
    (if a = n then (if q then u else if a < n then (if q then u else v) else v) else if a < n then (if q then u else v) else v)
      = if a < n + 1 then (if q then u else v) else v := by
  by_cases h1 : a = n
  · rw [if_pos h1, if_pos (show a < n + 1 by omega), if_neg (show ¬ a < n by omega)]
  · rw [if_neg h1]
    by_cases h2 : a < n
    · rw [if_pos h2, if_pos (show a < n + 1 by omega)]
    · rw [if_neg h2, if_neg (show ¬ a < n + 1 by omega)]

section

variable {R k : ℕ} (hk : 32 * k + 32 ≤ R) (x : BR R) (xs : Fin 2 → Fin 4 → V)
  (hx : ∀ h j r l, xs h j (ix2 r l) = x (ix2 (trow hk h r) (tcol j l)))

include hx

theorem bsc_eq (h : Fin 2) (j : Fin 4) (r : Fin 16) (g : Fin 4) :
    bsc (xs h j) r g = bscale x (trow hk h r) ⟨4 * j.val + g.val, by omega⟩ := by
  show ladder (amax _) = ladder (amax _)
  congr 2
  funext i
  show xs h j (ix2 r _) = _
  rw [hx]
  show x _ = x _
  congr 2
  exact Fin.ext (by show 128 * j.val + (g.val * 32 + i.val) = (4 * j.val + g.val) * 32 + i.val; omega)

theorem trip_code (h : Fin 2) (j : Fin 4) (r : Fin 16) (l : Fin 128) :
    codesV (xs h j) (lo (xs h)) (hi (xs h)) (col (colOf j)) (ix2 r l)
      = codeAt x (trow hk h r) (tcol j l) := by
  rw [codesV_apply, bsc_eq hk x xs hx, hx]
  unfold codeAt
  rw [blk_ix]

theorem trip_deq (h : Fin 2) (j : Fin 4) (r : Fin 16) (l : Fin 128) :
    deqV (xs h j) (lo (xs h)) (hi (xs h)) (col (colOf j)) (ix2 r l)
      = deqAt x (trow hk h r) (tcol j l) := by
  have e := codesV_apply (xs h) j r l
  rw [deqV_apply, ← e, trip_code hk x xs hx, bsc_eq hk x xs hx]
  unfold deqAt
  rw [blk_ix]

theorem trip_sc (h : Fin 2) (r : Fin 16) (l : Fin 128) :
    scV (lo (xs h)) (hi (xs h)) scLane (ix2 r l) = bscale x (trow hk h r) ⟨l.val % 16, by omega⟩ := by
  rw [scV_apply, bsc_eq hk x xs hx, show (⟨4 * (qcol l).val + (qblk l).val, by omega⟩ : Fin 16) = ⟨l.val % 16, by omega⟩ from
    Fin.ext (by show 4 * (l.val % 16 / 4) + l.val % 4 = l.val % 16; omega)]

theorem p7 (h : Fin 2) (j : Fin 4) (off : Fin 2 → ℕ) (hoff : off = ![32 * k + 16 * h.val, 128 * j.val]) (inb : ∀ a, off a + S16x128.size a ≤ (⟨2, ![R, 512]⟩ : Shape).size a)
    (w : V) (hw : ∀ r l, w (ix2 r l) = deqV (xs h j) (lo (xs h)) (hi (xs h)) (col (colOf j)) (ix2 r l))
    (z : (Rect.unit (s := ⟨2, ![R, 512]⟩) off S16x128.size inb).shape.Idx) :
    w z = deqAt x ((Rect.unit (s := ⟨2, ![R, 512]⟩) off S16x128.size inb).emb z 0) ((Rect.unit (s := ⟨2, ![R, 512]⟩) off S16x128.size inb).emb z 1)
      ∧ ((Rect.unit (s := ⟨2, ![R, 512]⟩) off S16x128.size inb).emb z 0).val / 32 = k := by
  subst hoff
  have h0 : (z 0).val < 16 := (z 0).isLt
  have h1 : (z 1).val < 128 := (z 1).isLt
  have e0 : (Rect.unit (s := ⟨2, ![R, 512]⟩) _ S16x128.size inb).emb z 0 = trow hk h ⟨(z 0).val, h0⟩ := Fin.ext (by
    show 32 * k + 16 * h.val + 1 * (z 0).val = 32 * k + 16 * h.val + (z 0).val; omega)
  have e1 : (Rect.unit (s := ⟨2, ![R, 512]⟩) _ S16x128.size inb).emb z 1 = tcol j ⟨(z 1).val, h1⟩ := Fin.ext (by
    show 128 * j.val + 1 * (z 1).val = 128 * j.val + (z 1).val; omega)
  refine ⟨?_, ?_⟩
  · rw [e0, e1, ← trip_deq hk x xs hx, ← hw]
    congr 1
    exact ix2_eta _ _ rfl rfl
  · rw [e0]
    have := h.isLt
    show (32 * k + 16 * h.val + (z 0).val) / 32 = k
    omega

theorem p5 (j : Fin 4) (off : Fin 2 → ℕ) (hoff : off = ![32 * k, 128 * j.val]) (inb : ∀ a, off a + S32x128.size a ≤ (⟨2, ![R, 512]⟩ : Shape).size a)
    (a b : FVec Ideal S16x128 .fp8e4m3) (w : FVec Ideal S32x128 .fp8e4m3) (hw : ∀ r l, w (ix2 r l) = if h : r.val < 16 then a (ix2 ⟨r.val, h⟩ l) else b (ix2 ⟨r.val - 16, by omega⟩ l))
    (ha : ∀ r l, a (ix2 r l) = codesV (xs 0 j) (lo (xs 0)) (hi (xs 0)) (col (colOf j)) (ix2 r l))
    (hb : ∀ r l, b (ix2 r l) = codesV (xs 1 j) (lo (xs 1)) (hi (xs 1)) (col (colOf j)) (ix2 r l))
    (z : (Rect.unit (s := ⟨2, ![R, 512]⟩) off S32x128.size inb).shape.Idx) :
    w z = codeAt x ((Rect.unit (s := ⟨2, ![R, 512]⟩) off S32x128.size inb).emb z 0) ((Rect.unit (s := ⟨2, ![R, 512]⟩) off S32x128.size inb).emb z 1)
      ∧ ((Rect.unit (s := ⟨2, ![R, 512]⟩) off S32x128.size inb).emb z 0).val / 32 = k := by
  subst hoff
  have h0 : (z 0).val < 32 := (z 0).isLt
  have h1 : (z 1).val < 128 := (z 1).isLt
  have e1 : (Rect.unit (s := ⟨2, ![R, 512]⟩) _ S32x128.size inb).emb z 1 = tcol j ⟨(z 1).val, h1⟩ := Fin.ext (by
    show 128 * j.val + 1 * (z 1).val = 128 * j.val + (z 1).val; omega)
  have ex : w z = w (ix2 ⟨(z 0).val, h0⟩ ⟨(z 1).val, h1⟩) := congrArg w (ix2_eta _ _ rfl rfl)
  refine ⟨?_, ?_⟩
  · rw [e1, ex, hw]
    by_cases hlt : (z 0).val < 16
    · rw [dif_pos hlt, ha, trip_code hk x xs hx]
      congr 1
      exact Fin.ext (by show 32 * k + 16 * 0 + (z 0).val = 32 * k + 1 * (z 0).val; omega)
    · rw [dif_neg hlt, hb, trip_code hk x xs hx]
      congr 1
      exact Fin.ext (by show 32 * k + 16 * 1 + ((z 0).val - 16) = 32 * k + 1 * (z 0).val; omega)
  · show (32 * k + 1 * (z 0).val) / 32 = k
    omega

theorem p6 {σ : RefSig} (arg6 : Memref σ .tc .vmem ⟨2, ![R, 128]⟩ .f32) (f6 : BufTy.Contents (Elt Ideal) arg6.view.ty) (Q : Fin 128 → Prop) [DecidablePred Q] (h : Fin 2) (off : Fin 2 → ℕ) (hoff : off = ![32 * k + 16 * h.val, 0]) (inb : ∀ a, off a + S16x128.size a ≤ (⟨2, ![R, 128]⟩ : Shape).size a)
    (w : FVec Ideal S16x128 .f32)
    (hw : ∀ r l, w (ix2 r l) = if Q l then (scV (lo (xs h)) (hi (xs h)) scLane (ix2 r l) : EReal)
      else arg6.view.readAt (Elt Ideal) (Rect.unit (s := ⟨2, ![R, 128]⟩) off S16x128.size inb).toLoadRect f6 (ix2 r l))
    (z : (Rect.unit (s := ⟨2, ![R, 128]⟩) off S16x128.size inb).shape.Idx) :
    w z = (fun y : (⟨2, ![R, 128]⟩ : Shape).Idx => if Q (lane y) then bscale x (y 0) ⟨(y 1).val % 16, by omega⟩
        else arg6.view.read (Elt Ideal) f6 y) ((Rect.unit (s := ⟨2, ![R, 128]⟩) off S16x128.size inb).emb z)
      ∧ ((Rect.unit (s := ⟨2, ![R, 128]⟩) off S16x128.size inb).emb z 0).val / 32 = k := by
  subst hoff
  have h0 : (z 0).val < 16 := (z 0).isLt
  have h1 : (z 1).val < 128 := (z 1).isLt
  have e0 : (Rect.unit (s := ⟨2, ![R, 128]⟩) _ S16x128.size inb).emb z 0 = trow hk h ⟨(z 0).val, h0⟩ := Fin.ext (by
    show 32 * k + 16 * h.val + 1 * (z 0).val = 32 * k + 16 * h.val + (z 0).val; omega)
  have e1 : (Rect.unit (s := ⟨2, ![R, 128]⟩) _ S16x128.size inb).emb z 1 = (⟨(z 1).val, h1⟩ : Fin 128) := Fin.ext (by
    show 0 + 1 * (z 1).val = (z 1).val; omega)
  have ex : w z = w (ix2 ⟨(z 0).val, h0⟩ ⟨(z 1).val, h1⟩) := congrArg w (ix2_eta _ _ rfl rfl)
  refine ⟨?_, ?_⟩
  · rw [ex, hw]
    dsimp only
    rw [show lane _ = (⟨(z 1).val, h1⟩ : Fin 128) from e1, e0]
    split
    · rw [trip_sc hk x xs hx]
      exact congrArg (bscale _ _) (Fin.ext (by show (z 1).val % 16 = (0 + 1 * (z 1).val) % 16; rw [Nat.zero_add, Nat.one_mul]))
    · exact readAt_unit arg6 f6 _ _ _ _ _ (Fin.forall_fin_two.mpr ⟨by
        show 32 * k + 16 * h.val + 1 * (z 0).val = 32 * k + 16 * h.val + (z 0).val; omega, by
        show 0 + 1 * (z 1).val = 0 + (z 1).val; omega⟩)
  · rw [e0]
    have := h.isLt
    show (32 * k + 16 * h.val + (z 0).val) / 32 = k
    omega

/-! The stores of a trip, read back: what the trip's thirty-two rows then hold; the other rows as before. -/

theorem read_codes {σ : RefSig} {κ : Kind} {sp : Space} (v : View σ κ sp ⟨2, ![R, 512]⟩ .fp8e4m3) (f : v.ty.Contents (Elt Ideal)) (off : Fin 4 → Fin 2 → ℕ)
    (hoff : ∀ j, off j = ![32 * k, 128 * j.val]) (inb : ∀ j a, off j a + S32x128.size a ≤ (⟨2, ![R, 512]⟩ : Shape).size a)
    (a b : Fin 4 → FVec Ideal S16x128 .fp8e4m3) (w : Fin 4 → FVec Ideal S32x128 .fp8e4m3)
    (hw : ∀ j r l, w j (ix2 r l) = if h : r.val < 16 then a j (ix2 ⟨r.val, h⟩ l) else b j (ix2 ⟨r.val - 16, by omega⟩ l))
    (ha : ∀ j r l, a j (ix2 r l) = codesV (xs 0 j) (lo (xs 0)) (hi (xs 0)) (col (colOf j)) (ix2 r l))
    (hb : ∀ j r l, b j (ix2 r l) = codesV (xs 1 j) (lo (xs 1)) (hi (xs 1)) (col (colOf j)) (ix2 r l)) (y : (⟨2, ![R, 512]⟩ : Shape).Idx) :
    v.read (Elt Ideal) (v.writes (Elt Ideal) f ([⟨Rect.unit (off 3) S32x128.size (inb 3), w 3⟩, ⟨Rect.unit (off 2) S32x128.size (inb 2), w 2⟩,
        ⟨Rect.unit (off 1) S32x128.size (inb 1), w 1⟩, ⟨Rect.unit (off 0) S32x128.size (inb 0), w 0⟩] : List (View.Piece (Elt Ideal) ⟨2, ![R, 512]⟩ .fp8e4m3))) y
      = if (y 0).val / 32 = k then codeAt x (y 0) (y 1) else v.read (Elt Ideal) f y := by
  refine read_pieces v f _ (fun y => codeAt x (y 0) (y 1)) (fun y => (y 0).val / 32 = k) ?_ ?_ y
  · have p (j : Fin 4) := p5 hk x xs hx j _ (hoff j) (inb j) (a j) (b j) (w j) (hw j) (ha j) (hb j)
    exact List.forall_mem_cons.mpr ⟨p 3, List.forall_mem_cons.mpr ⟨p 2, List.forall_mem_cons.mpr ⟨p 1, List.forall_mem_cons.mpr ⟨p 0, fun _ h => absurd h List.not_mem_nil⟩⟩⟩⟩
  · intro y hy
    have h1 : (y 1).val < 512 := (y 1).isLt
    have m (j : Fin 4) (hj : (y 1).val / 128 = j.val) : y ∈ (Rect.unit (s := ⟨2, ![R, 512]⟩) (off j) S32x128.size (inb j)).set :=
      mem_rect (off j) _ _ (hoff j) (inb j) y (by omega) (by omega)
    rcases (show (y 1).val / 128 = 3 ∨ (y 1).val / 128 = 2 ∨ (y 1).val / 128 = 1 ∨ (y 1).val / 128 = 0 by omega) with hj | hj | hj | hj
    · exact ⟨_, .head _, m 3 hj⟩
    · exact ⟨_, .tail _ (.head _), m 2 hj⟩
    · exact ⟨_, .tail _ (.tail _ (.head _)), m 1 hj⟩
    · exact ⟨_, .tail _ (.tail _ (.tail _ (.head _))), m 0 hj⟩

theorem read_deq {σ : RefSig} {κ : Kind} {sp : Space} (v : View σ κ sp ⟨2, ![R, 512]⟩ .bf16) (f : v.ty.Contents (Elt Ideal)) (off : Fin 2 → Fin 4 → Fin 2 → ℕ)
    (hoff : ∀ h j, off h j = ![32 * k + 16 * h.val, 128 * j.val]) (inb : ∀ h j a, off h j a + S16x128.size a ≤ (⟨2, ![R, 512]⟩ : Shape).size a)
    (w : Fin 2 → Fin 4 → V) (hw : ∀ h j r l, w h j (ix2 r l) = deqV (xs h j) (lo (xs h)) (hi (xs h)) (col (colOf j)) (ix2 r l)) (y : (⟨2, ![R, 512]⟩ : Shape).Idx) :
    v.read (Elt Ideal) (v.writes (Elt Ideal) f ([⟨Rect.unit (off 1 3) S16x128.size (inb 1 3), w 1 3⟩, ⟨Rect.unit (off 1 2) S16x128.size (inb 1 2), w 1 2⟩,
        ⟨Rect.unit (off 1 1) S16x128.size (inb 1 1), w 1 1⟩, ⟨Rect.unit (off 1 0) S16x128.size (inb 1 0), w 1 0⟩,
        ⟨Rect.unit (off 0 3) S16x128.size (inb 0 3), w 0 3⟩, ⟨Rect.unit (off 0 2) S16x128.size (inb 0 2), w 0 2⟩,
        ⟨Rect.unit (off 0 1) S16x128.size (inb 0 1), w 0 1⟩, ⟨Rect.unit (off 0 0) S16x128.size (inb 0 0), w 0 0⟩] : List (View.Piece (Elt Ideal) ⟨2, ![R, 512]⟩ .bf16))) y
      = if (y 0).val / 32 = k then deqAt x (y 0) (y 1) else v.read (Elt Ideal) f y := by
  refine read_pieces v f _ (fun y => deqAt x (y 0) (y 1)) (fun y => (y 0).val / 32 = k) ?_ ?_ y
  · have p (h : Fin 2) (j : Fin 4) := p7 hk x xs hx h j _ (hoff h j) (inb h j) (w h j) (hw h j)
    exact List.forall_mem_cons.mpr ⟨p 1 3, List.forall_mem_cons.mpr ⟨p 1 2, List.forall_mem_cons.mpr ⟨p 1 1, List.forall_mem_cons.mpr ⟨p 1 0,
      List.forall_mem_cons.mpr ⟨p 0 3, List.forall_mem_cons.mpr ⟨p 0 2, List.forall_mem_cons.mpr ⟨p 0 1, List.forall_mem_cons.mpr ⟨p 0 0, fun _ h => absurd h List.not_mem_nil⟩⟩⟩⟩⟩⟩⟩⟩
  · intro y hy
    have h1 : (y 1).val < 512 := (y 1).isLt
    have m (h : Fin 2) (j : Fin 4) (hh : (y 0).val % 32 / 16 = h.val) (hj : (y 1).val / 128 = j.val) :
        y ∈ (Rect.unit (s := ⟨2, ![R, 512]⟩) (off h j) S16x128.size (inb h j)).set :=
      mem_rect (off h j) _ _ (hoff h j) (inb h j) y (by omega) (by omega)
    rcases (show (y 0).val % 32 / 16 = 1 ∨ (y 0).val % 32 / 16 = 0 by omega) with hh | hh <;>
      rcases (show (y 1).val / 128 = 3 ∨ (y 1).val / 128 = 2 ∨ (y 1).val / 128 = 1 ∨ (y 1).val / 128 = 0 by omega) with hj | hj | hj | hj
    · exact ⟨_, .head _, m 1 3 hh hj⟩
    · exact ⟨_, .tail _ (.head _), m 1 2 hh hj⟩
    · exact ⟨_, .tail _ (.tail _ (.head _)), m 1 1 hh hj⟩
    · exact ⟨_, .tail _ (.tail _ (.tail _ (.head _))), m 1 0 hh hj⟩
    · exact ⟨_, .tail _ (.tail _ (.tail _ (.tail _ (.head _)))), m 0 3 hh hj⟩
    · exact ⟨_, .tail _ (.tail _ (.tail _ (.tail _ (.tail _ (.head _))))), m 0 2 hh hj⟩
    · exact ⟨_, .tail _ (.tail _ (.tail _ (.tail _ (.tail _ (.tail _ (.head _)))))), m 0 1 hh hj⟩
    · exact ⟨_, .tail _ (.tail _ (.tail _ (.tail _ (.tail _ (.tail _ (.tail _ (.head _))))))), m 0 0 hh hj⟩

theorem read_scales {σ : RefSig} (arg6 : Memref σ .tc .vmem ⟨2, ![R, 128]⟩ .f32) (f6 : BufTy.Contents (Elt Ideal) arg6.view.ty) (Q : Fin 128 → Prop) [DecidablePred Q]
    (off : Fin 2 → Fin 2 → ℕ) (hoff : ∀ h, off h = ![32 * k + 16 * h.val, 0]) (inb : ∀ h a, off h a + S16x128.size a ≤ (⟨2, ![R, 128]⟩ : Shape).size a)
    (w : Fin 2 → FVec Ideal S16x128 .f32)
    (hw : ∀ h r l, w h (ix2 r l) = if Q l then (scV (lo (xs h)) (hi (xs h)) scLane (ix2 r l) : EReal)
      else arg6.view.readAt (Elt Ideal) (Rect.unit (s := ⟨2, ![R, 128]⟩) (off h) S16x128.size (inb h)).toLoadRect f6 (ix2 r l)) (y : (⟨2, ![R, 128]⟩ : Shape).Idx) :
    arg6.view.read (Elt Ideal) (arg6.view.writes (Elt Ideal) f6 ([⟨Rect.unit (off 1) S16x128.size (inb 1), w 1⟩, ⟨Rect.unit (off 0) S16x128.size (inb 0), w 0⟩] :
        List (View.Piece (Elt Ideal) ⟨2, ![R, 128]⟩ .f32))) y
      = if (y 0).val / 32 = k then (if Q (lane y) then bscale x (y 0) ⟨(y 1).val % 16, by omega⟩ else arg6.view.read (Elt Ideal) f6 y)
        else arg6.view.read (Elt Ideal) f6 y := by
  refine read_pieces arg6.view f6 _ (fun y => if Q (lane y) then bscale x (y 0) ⟨(y 1).val % 16, by omega⟩
        else arg6.view.read (Elt Ideal) f6 y) (fun y => (y 0).val / 32 = k) ?_ ?_ y
  · have p (h : Fin 2) := p6 hk x xs hx arg6 f6 Q h _ (hoff h) (inb h) (w h) (hw h)
    exact List.forall_mem_cons.mpr ⟨p 1, List.forall_mem_cons.mpr ⟨p 0, fun _ h => absurd h List.not_mem_nil⟩⟩
  · intro y hy
    have h1 : (y 1).val < 128 := (y 1).isLt
    have m (h : Fin 2) (hh : (y 0).val % 32 / 16 = h.val) : y ∈ (Rect.unit (s := ⟨2, ![R, 128]⟩) (off h) S16x128.size (inb h)).set :=
      mem_rect (off h) _ _ (hoff h) (inb h) y (by omega) (by omega)
    rcases (show (y 0).val % 32 / 16 = 1 ∨ (y 0).val % 32 / 16 = 0 by omega) with hh | hh
    · exact ⟨_, .head _, m 1 hh⟩
    · exact ⟨_, .tail _ (.head _), m 0 hh⟩

end

end Cert.KernelIdeal.Hand

end
-- ==== Proof.Trip.lean ====
/-
  What the kernel's row loop leaves in the codes' block, the scales' block and the scratch block of dequantised values,
  element by element over the extended reals (`loop_upto`): the code, the scale and the
  dequantised value of the element's own block of 32; the scales' block changes in the sixteen lanes of the column block
  alone.
-/
module

public import proofs.«01_k».proof.Proof.Tile

@[expose] public section

noncomputable section

namespace Cert.KernelIdeal.Hand

open Cert.KernelIdeal Cert.KernelIdeal.Gen Cert.Scale
open Idealize.ShloMosaic Idealize.ShloMosaic.TcCoe Idealize.ShloMosaic.Tactic

/-! Where a trip's rectangles lie. -/

theorem off_in : ∀ (k : Fin k0_t1_loop.trips) (h : Fin 2),
    k0_off1 k (BitVec.ofNat 32 (16 * h.val)) = ![32 * k.val + 16 * h.val, 0] ∧ k0_off2 k (BitVec.ofNat 32 (16 * h.val)) = ![32 * k.val + 16 * h.val, 128]
    ∧ k0_off3 k (BitVec.ofNat 32 (16 * h.val)) = ![32 * k.val + 16 * h.val, 256] ∧ k0_off4 k (BitVec.ofNat 32 (16 * h.val)) = ![32 * k.val + 16 * h.val, 384]
    ∧ k0_off5 k (BitVec.ofNat 32 (16 * h.val)) = ![32 * k.val + 16 * h.val, 0] := by decide
theorem off_out : ∀ (k : Fin k0_t1_loop.trips),
    k0_off6 k = ![32 * k.val, 0] ∧ k0_off7 k = ![32 * k.val, 128] ∧ k0_off8 k = ![32 * k.val, 256] ∧ k0_off9 k = ![32 * k.val, 384] := by decide

/-- A block of 1024 rows and 512 columns. -/
abbrev B := BR 1024

section

variable (arg2 : Memref sig .tc .vmem S1024x512 .bf16) (X : BufTy.Contents (Elt Ideal) arg2.view.ty) (k : Fin k0_t1_loop.trips)

theorem trip_le : 32 * k.val + 32 ≤ 1024 := by
  have h : k.val < 32 := k.isLt
  omega

/-- The four columns of the first sixteen rows of trip `k`, and of the other sixteen. -/
def xs (h : Fin 2) : Fin 4 → V := match h with
  | 0 => ![trip_k0_t1.sl.r arg2 X k, trip_k0_t1.sl.r_1 arg2 X k, trip_k0_t1.sl.r_2 arg2 X k, trip_k0_t1.sl.r_3 arg2 X k]
  | 1 => ![trip_k0_t1.sl.r_43 arg2 X k, trip_k0_t1.sl.r_44 arg2 X k, trip_k0_t1.sl.r_45 arg2 X k, trip_k0_t1.sl.r_46 arg2 X k]

theorem xs_apply (h : Fin 2) (j : Fin 4) (r : Fin 16) (l : Fin 128) :
    xs arg2 X k h j (ix2 r l) = arg2.view.read (Elt Ideal) X (ix2 (trow (trip_le k) h r) (tcol j l)) := by
  have o0 := off_in k 0
  have o1 := off_in k 1
  rcases fin2 h with rfl | rfl <;> rcases fin4 j with rfl | rfl | rfl | rfl <;> refine readAt_unit arg2 X _ _ _ _ _ ?_ <;>
    refine Fin.forall_fin_two.mpr ⟨?_, ?_⟩
  · exact congrArg (· + r.val) (congrFun o0.1 0).symm
  · exact congrArg (· + l.val) (congrFun o0.1 1).symm
  · exact congrArg (· + r.val) (congrFun o0.2.1 0).symm
  · exact congrArg (· + l.val) (congrFun o0.2.1 1).symm
  · exact congrArg (· + r.val) (congrFun o0.2.2.1 0).symm
  · exact congrArg (· + l.val) (congrFun o0.2.2.1 1).symm
  · exact congrArg (· + r.val) (congrFun o0.2.2.2.1 0).symm
  · exact congrArg (· + l.val) (congrFun o0.2.2.2.1 1).symm
  · exact congrArg (· + r.val) (congrFun o1.1 0).symm
  · exact congrArg (· + l.val) (congrFun o1.1 1).symm
  · exact congrArg (· + r.val) (congrFun o1.2.1 0).symm
  · exact congrArg (· + l.val) (congrFun o1.2.1 1).symm
  · exact congrArg (· + r.val) (congrFun o1.2.2.1 0).symm
  · exact congrArg (· + l.val) (congrFun o1.2.2.1 1).symm
  · exact congrArg (· + r.val) (congrFun o1.2.2.2.1 0).symm
  · exact congrArg (· + l.val) (congrFun o1.2.2.2.1 1).symm

/-! The trip's values, of its four columns. -/

theorem c_25 : trip_k0_t1.sl.r_25 arg2 X k = codesV (xs arg2 X k 0 0) (lo (xs arg2 X k 0)) (hi (xs arg2 X k 0)) (col 0#32) := by
  rw [r_25_eq, r_21_eq, r_17_eq]; rfl
theorem c_30 : trip_k0_t1.sl.r_30 arg2 X k = codesV (xs arg2 X k 0 1) (lo (xs arg2 X k 0)) (hi (xs arg2 X k 0)) (col 16#32) := by
  rw [r_30_eq, r_21_eq, r_17_eq]; rfl
theorem c_35 : trip_k0_t1.sl.r_35 arg2 X k = codesV (xs arg2 X k 0 2) (lo (xs arg2 X k 0)) (hi (xs arg2 X k 0)) (col 8#32) := by
  rw [r_35_eq, r_21_eq, r_17_eq]; rfl
theorem c_39 : trip_k0_t1.sl.r_39 arg2 X k = codesV (xs arg2 X k 0 3) (lo (xs arg2 X k 0)) (hi (xs arg2 X k 0)) (col 24#32) := by
  rw [r_39_eq, r_21_eq, r_17_eq]; rfl
theorem d_26 : trip_k0_t1.sl.r_26 arg2 X k = deqV (xs arg2 X k 0 0) (lo (xs arg2 X k 0)) (hi (xs arg2 X k 0)) (col 0#32) := by
  rw [r_26_eq, r_21_eq, r_17_eq]; rfl
theorem d_31 : trip_k0_t1.sl.r_31 arg2 X k = deqV (xs arg2 X k 0 1) (lo (xs arg2 X k 0)) (hi (xs arg2 X k 0)) (col 16#32) := by
  rw [r_31_eq, r_21_eq, r_17_eq]; rfl
theorem d_36 : trip_k0_t1.sl.r_36 arg2 X k = deqV (xs arg2 X k 0 2) (lo (xs arg2 X k 0)) (hi (xs arg2 X k 0)) (col 8#32) := by
  rw [r_36_eq, r_21_eq, r_17_eq]; rfl
theorem d_41 : trip_k0_t1.sl.r_41 arg2 X k = deqV (xs arg2 X k 0 3) (lo (xs arg2 X k 0)) (hi (xs arg2 X k 0)) (col 24#32) := by
  rw [r_41_eq, r_21_eq, r_17_eq]; rfl
theorem c_67 : trip_k0_t1.sl.r_67 arg2 X k = codesV (xs arg2 X k 1 0) (lo (xs arg2 X k 1)) (hi (xs arg2 X k 1)) (col 0#32) := by
  rw [r_67_eq, r_66_eq, r_62_eq]; rfl
theorem c_69 : trip_k0_t1.sl.r_69 arg2 X k = codesV (xs arg2 X k 1 1) (lo (xs arg2 X k 1)) (hi (xs arg2 X k 1)) (col 16#32) := by
  rw [r_69_eq, r_66_eq, r_62_eq]; rfl
theorem c_72 : trip_k0_t1.sl.r_72 arg2 X k = codesV (xs arg2 X k 1 2) (lo (xs arg2 X k 1)) (hi (xs arg2 X k 1)) (col 8#32) := by
  rw [r_72_eq, r_66_eq, r_62_eq]; rfl
theorem c_75 : trip_k0_t1.sl.r_75 arg2 X k = codesV (xs arg2 X k 1 3) (lo (xs arg2 X k 1)) (hi (xs arg2 X k 1)) (col 24#32) := by
  rw [r_75_eq, r_66_eq, r_62_eq]; rfl
theorem d_68 : trip_k0_t1.sl.r_68 arg2 X k = deqV (xs arg2 X k 1 0) (lo (xs arg2 X k 1)) (hi (xs arg2 X k 1)) (col 0#32) := by
  rw [r_68_eq, r_66_eq, r_62_eq]; rfl
theorem d_70 : trip_k0_t1.sl.r_70 arg2 X k = deqV (xs arg2 X k 1 1) (lo (xs arg2 X k 1)) (hi (xs arg2 X k 1)) (col 16#32) := by
  rw [r_70_eq, r_66_eq, r_62_eq]; rfl
theorem d_73 : trip_k0_t1.sl.r_73 arg2 X k = deqV (xs arg2 X k 1 2) (lo (xs arg2 X k 1)) (hi (xs arg2 X k 1)) (col 8#32) := by
  rw [r_73_eq, r_66_eq, r_62_eq]; rfl
theorem d_76 : trip_k0_t1.sl.r_76 arg2 X k = deqV (xs arg2 X k 1 3) (lo (xs arg2 X k 1)) (hi (xs arg2 X k 1)) (col 24#32) := by
  rw [r_76_eq, r_66_eq, r_62_eq]; rfl
theorem s0 : trip_k0_t1.sl.r_42 arg2 X k = scV (lo (xs arg2 X k 0)) (hi (xs arg2 X k 0)) scLane := by
  rw [r_42_eq, r_21_eq, r_17_eq]; rfl

end

/-! The payloads at an element. -/

theorem cat_1 (a b : FVec Ideal S16x128 .fp8e4m3) (r : Fin 32) (l : Fin 128) :
    k0_pay1 a b (ix2 r l) = if h : r.val < 16 then a (ix2 ⟨r.val, h⟩ l) else b (ix2 ⟨r.val - 16, by omega⟩ l) := by
  pointwise [k0_pay1]
theorem cat_2 (a b : FVec Ideal S16x128 .fp8e4m3) (r : Fin 32) (l : Fin 128) :
    k0_pay2 a b (ix2 r l) = if h : r.val < 16 then a (ix2 ⟨r.val, h⟩ l) else b (ix2 ⟨r.val - 16, by omega⟩ l) := by
  pointwise [k0_pay2]
theorem cat_3 (a b : FVec Ideal S16x128 .fp8e4m3) (r : Fin 32) (l : Fin 128) :
    k0_pay3 a b (ix2 r l) = if h : r.val < 16 then a (ix2 ⟨r.val, h⟩ l) else b (ix2 ⟨r.val - 16, by omega⟩ l) := by
  pointwise [k0_pay3]
theorem cat_122 (a b : FVec Ideal S16x128 .fp8e4m3) (r : Fin 32) (l : Fin 128) :
    k0_pay122 a b (ix2 r l) = if h : r.val < 16 then a (ix2 ⟨r.val, h⟩ l) else b (ix2 ⟨r.val - 16, by omega⟩ l) := by
  pointwise [k0_pay122]

theorem id_57 (a : V) (r : Fin 16) (l : Fin 128) : k0_pay57 a (ix2 r l) = a (ix2 r l) := by
  pointwise [k0_pay57]
theorem id_58 (a : V) (r : Fin 16) (l : Fin 128) : k0_pay58 a (ix2 r l) = a (ix2 r l) := by
  pointwise [k0_pay58]
theorem id_59 (a : V) (r : Fin 16) (l : Fin 128) : k0_pay59 a (ix2 r l) = a (ix2 r l) := by
  pointwise [k0_pay59]
theorem id_60 (a : V) (r : Fin 16) (l : Fin 128) : k0_pay60 a (ix2 r l) = a (ix2 r l) := by
  pointwise [k0_pay60]
theorem id_117 (a : V) (r : Fin 16) (l : Fin 128) : k0_pay117 a (ix2 r l) = a (ix2 r l) := by
  pointwise [k0_pay117]
theorem id_118 (a : V) (r : Fin 16) (l : Fin 128) : k0_pay118 a (ix2 r l) = a (ix2 r l) := by
  pointwise [k0_pay118]
theorem id_119 (a : V) (r : Fin 16) (l : Fin 128) : k0_pay119 a (ix2 r l) = a (ix2 r l) := by
  pointwise [k0_pay119]
theorem id_120 (a : V) (r : Fin 16) (l : Fin 128) : k0_pay120 a (ix2 r l) = a (ix2 r l) := by
  pointwise [k0_pay120]

theorem sel_61 (v39 : IVec S16x128 1) (a : V) (old : FVec Ideal S16x128 .f32) (Q : Fin 128 → Prop) [DecidablePred Q]
    (hv : ∀ r l, v39 (ix2 r l) = BitVec.ofBool (decide (Q l))) (r : Fin 16) (l : Fin 128) :
    k0_pay61 v39 a old (ix2 r l) = if Q l then (a (ix2 r l) : EReal) else old (ix2 r l) := by
  pointwise [k0_pay61]
  rw [hv, sel_dec]

section

variable (𝒱 : Variants) (c : Dev nD) (bd : Option 𝒱.V) (i : grid0.Coords) (arg2 : Memref sig .tc .vmem S1024x512 .bf16) (harg2 : arg2.IsWhole) (arg3 : Memref sig .tc .vmem S3584x512 .bf16) (harg3 : arg3.IsWhole) (arg4 : Memref sig .tc .vmem S1024x3584 .bf16) (harg4 : arg4.IsWhole) (arg5 : Memref sig .tc .vmem S1024x512 .fp8e4m3) (harg5 : arg5.IsWhole) (arg6 : Memref sig .tc .vmem S1024x128 .f32) (harg6 : arg6.IsWhole) (arg7 : Memref sig .tc .vmem S1024x512 .bf16) (harg7 : arg7.IsWhole) (arg8 : Memref sig .tc .vmem S1024x3584 .f32) (harg8 : arg8.IsWhole) (v39 : IVec S16x128 1) (c0 : BitVec 32) (X : BufTy.Contents (Elt Ideal) arg2.view.ty) (k : Fin k0_t1_loop.trips) (f5 : BufTy.Contents (Elt Ideal) arg5.view.ty) (f6 : BufTy.Contents (Elt Ideal) arg6.view.ty) (f7 : BufTy.Contents (Elt Ideal) arg7.view.ty)

/-- One trip's stores. -/
abbrev tL := tripL_k0_t1 (F := Ideal) 𝒱 c bd i arg2 harg2 arg3 harg3 arg4 harg4 arg5 harg5 arg6 harg6 arg7 harg7 arg8 harg8 v39 c0 X k f5 f6 f7

theorem t5 (y : S1024x512.Idx) : arg5.view.read (Elt Ideal) (arg5.view.writes (Elt Ideal) f5 (tL 𝒱 c bd i arg2 harg2 arg3 harg3 arg4 harg4 arg5 harg5 arg6 harg6 arg7 harg7 arg8 harg8 v39 c0 X k f5 f6 f7).1) y
    = if (y 0).val / 32 = k.val then codeAt (arg2.view.read (Elt Ideal) X) (y 0) (y 1) else arg5.view.read (Elt Ideal) f5 y := by
  have o := off_out k
  unfold tL tripL_k0_t1 trip_k0_t1; dsimp only
  exact read_codes (trip_le k) _ (xs arg2 X k) (xs_apply arg2 X k) arg5.view f5 ![k0_off6 k, k0_off7 k, k0_off8 k, k0_off9 k]
    (fin4_all o.1 o.2.1 o.2.2.1 o.2.2.2) (fin4_all (k0_off6_inb k) (k0_off7_inb k) (k0_off8_inb k) (k0_off9_inb k))
    ![trip_k0_t1.sl.r_25 arg2 X k, trip_k0_t1.sl.r_30 arg2 X k, trip_k0_t1.sl.r_35 arg2 X k, trip_k0_t1.sl.r_39 arg2 X k]
    ![trip_k0_t1.sl.r_67 arg2 X k, trip_k0_t1.sl.r_69 arg2 X k, trip_k0_t1.sl.r_72 arg2 X k, trip_k0_t1.sl.r_75 arg2 X k]
    ![k0_pay122 _ _, k0_pay1 _ _, k0_pay2 _ _, k0_pay3 _ _] (fin4_all (cat_122 _ _) (cat_1 _ _) (cat_2 _ _) (cat_3 _ _))
    (fin4_all (fun r l => congrFun (c_25 arg2 X k) _) (fun r l => congrFun (c_30 arg2 X k) _) (fun r l => congrFun (c_35 arg2 X k) _) (fun r l => congrFun (c_39 arg2 X k) _))
    (fin4_all (fun r l => congrFun (c_67 arg2 X k) _) (fun r l => congrFun (c_69 arg2 X k) _) (fun r l => congrFun (c_72 arg2 X k) _) (fun r l => congrFun (c_75 arg2 X k) _)) y

theorem t6 (Q : Fin 128 → Prop) [DecidablePred Q] (hv : ∀ r l, v39 (ix2 r l) = BitVec.ofBool (decide (Q l))) (y : S1024x128.Idx) :
    arg6.view.read (Elt Ideal) (arg6.view.writes (Elt Ideal) f6 (tL 𝒱 c bd i arg2 harg2 arg3 harg3 arg4 harg4 arg5 harg5 arg6 harg6 arg7 harg7 arg8 harg8 v39 c0 X k f5 f6 f7).2.1) y
    = if (y 0).val / 32 = k.val then (if Q (lane y) then bscale (arg2.view.read (Elt Ideal) X) (y 0) ⟨(y 1).val % 16, by omega⟩ else arg6.view.read (Elt Ideal) f6 y)
      else arg6.view.read (Elt Ideal) f6 y := by
  unfold tL tripL_k0_t1 trip_k0_t1; dsimp only
  refine read_scales (trip_le k) _ (xs arg2 X k) (xs_apply arg2 X k) arg6 f6 Q ![k0_off5 k 0#32, k0_off5 k 16#32]
    (fin2_all (off_in k 0).2.2.2.2 (off_in k 1).2.2.2.2) (fin2_all (k0_off5_inb k 0) (k0_off5_inb k 1)) ![_, _] ?_ y
  refine fin2_all (fun r l => ?_) (fun r l => ?_)
  · dsimp only [Matrix.cons_val_zero]
    rw [s0]
    exact sel_61 v39 (scV (lo (xs arg2 X k 0)) (hi (xs arg2 X k 0)) scLane) _ Q hv r l
  · dsimp only [Matrix.cons_val_one, Matrix.cons_val_zero]
    rw [r_66_eq, r_62_eq]
    exact sel_61 v39 (scV (lo (xs arg2 X k 1)) (hi (xs arg2 X k 1)) scLane) _ Q hv r l

theorem t7 (y : S1024x512.Idx) : arg7.view.read (Elt Ideal) (arg7.view.writes (Elt Ideal) f7 (tL 𝒱 c bd i arg2 harg2 arg3 harg3 arg4 harg4 arg5 harg5 arg6 harg6 arg7 harg7 arg8 harg8 v39 c0 X k f5 f6 f7).2.2) y
    = if (y 0).val / 32 = k.val then deqAt (arg2.view.read (Elt Ideal) X) (y 0) (y 1) else arg7.view.read (Elt Ideal) f7 y := by
  have o0 := off_in k 0
  have o1 := off_in k 1
  unfold tL tripL_k0_t1 trip_k0_t1; dsimp only
  exact read_deq (trip_le k) _ (xs arg2 X k) (xs_apply arg2 X k) arg7.view f7
    ![![k0_off1 k 0#32, k0_off2 k 0#32, k0_off3 k 0#32, k0_off4 k 0#32], ![k0_off1 k 16#32, k0_off2 k 16#32, k0_off3 k 16#32, k0_off4 k 16#32]]
    (fin2_all (fin4_all o0.1 o0.2.1 o0.2.2.1 o0.2.2.2.1) (fin4_all o1.1 o1.2.1 o1.2.2.1 o1.2.2.2.1))
    (fin2_all (fin4_all (k0_off1_inb k 0) (k0_off2_inb k 0) (k0_off3_inb k 0) (k0_off4_inb k 0)) (fin4_all (k0_off1_inb k 1) (k0_off2_inb k 1) (k0_off3_inb k 1) (k0_off4_inb k 1)))
    ![![k0_pay57 (trip_k0_t1.sl.r_26 arg2 X k), k0_pay58 (trip_k0_t1.sl.r_31 arg2 X k), k0_pay59 (trip_k0_t1.sl.r_36 arg2 X k), k0_pay60 (trip_k0_t1.sl.r_41 arg2 X k)],
      ![k0_pay117 (trip_k0_t1.sl.r_68 arg2 X k), k0_pay118 (trip_k0_t1.sl.r_70 arg2 X k), k0_pay119 (trip_k0_t1.sl.r_73 arg2 X k), k0_pay120 (trip_k0_t1.sl.r_76 arg2 X k)]]
    (fin2_all
      (fin4_all (fun r l => (id_57 _ r l).trans (congrFun (d_26 arg2 X k) _)) (fun r l => (id_58 _ r l).trans (congrFun (d_31 arg2 X k) _))
        (fun r l => (id_59 _ r l).trans (congrFun (d_36 arg2 X k) _)) (fun r l => (id_60 _ r l).trans (congrFun (d_41 arg2 X k) _)))
      (fin4_all (fun r l => (id_117 _ r l).trans (congrFun (d_68 arg2 X k) _)) (fun r l => (id_118 _ r l).trans (congrFun (d_70 arg2 X k) _))
        (fun r l => (id_119 _ r l).trans (congrFun (d_73 arg2 X k) _)) (fun r l => (id_120 _ r l).trans (congrFun (d_76 arg2 X k) _)))) y

/-! The whole loop. -/

/-- The stores of the trips before `n`. -/
abbrev lL (n : ℕ) := pb_k0_t1 (F := Ideal) 𝒱 c bd i arg2 harg2 arg3 harg3 arg4 harg4 arg5 harg5 arg6 harg6 arg7 harg7 arg8 harg8 v39 c0 X f5 f6 f7 n

theorem loop_upto (Q : Fin 128 → Prop) [DecidablePred Q] (hv : ∀ r l, v39 (ix2 r l) = BitVec.ofBool (decide (Q l))) (n : ℕ) (hn : n ≤ 32) :
    (∀ y : S1024x512.Idx, arg5.view.read (Elt Ideal) (arg5.view.writes (Elt Ideal) f5 (lL 𝒱 c bd i arg2 harg2 arg3 harg3 arg4 harg4 arg5 harg5 arg6 harg6 arg7 harg7 arg8 harg8 v39 c0 X f5 f6 f7 n).1) y
      = if (y 0).val / 32 < n then codeAt (arg2.view.read (Elt Ideal) X) (y 0) (y 1) else arg5.view.read (Elt Ideal) f5 y)
    ∧ (∀ y : S1024x128.Idx, arg6.view.read (Elt Ideal) (arg6.view.writes (Elt Ideal) f6 (lL 𝒱 c bd i arg2 harg2 arg3 harg3 arg4 harg4 arg5 harg5 arg6 harg6 arg7 harg7 arg8 harg8 v39 c0 X f5 f6 f7 n).2.1) y
      = if (y 0).val / 32 < n then (if Q (lane y) then bscale (arg2.view.read (Elt Ideal) X) (y 0) ⟨(y 1).val % 16, by omega⟩ else arg6.view.read (Elt Ideal) f6 y)
        else arg6.view.read (Elt Ideal) f6 y)
    ∧ (∀ y : S1024x512.Idx, arg7.view.read (Elt Ideal) (arg7.view.writes (Elt Ideal) f7 (lL 𝒱 c bd i arg2 harg2 arg3 harg3 arg4 harg4 arg5 harg5 arg6 harg6 arg7 harg7 arg8 harg8 v39 c0 X f5 f6 f7 n).2.2) y
      = if (y 0).val / 32 < n then deqAt (arg2.view.read (Elt Ideal) X) (y 0) (y 1) else arg7.view.read (Elt Ideal) f7 y) := by
  induction n with
  | zero => exact ⟨fun y => rfl, fun y => rfl, fun y => rfl⟩
  | succ n ih =>
    obtain ⟨i5, i6, i7⟩ := ih (by omega)
    have hs := pb_k0_t1_succ (F := Ideal) 𝒱 c bd i arg2 harg2 arg3 harg3 arg4 harg4 arg5 harg5 arg6 harg6 arg7 harg7 arg8 harg8 v39 c0 X f5 f6 f7 (⟨n, by show n < 32; omega⟩ : Fin k0_t1_loop.trips)
    unfold lL
    rw [show n + 1 = (⟨n, by show n < 32; omega⟩ : Fin k0_t1_loop.trips).val + 1 from rfl, hs]
    refine ⟨fun y => ?_, fun y => ?_, fun y => ?_⟩
    · rw [View.writes_append, t5, i5]
      exact upto_step _ _ _ _
    · rw [View.writes_append, t6 (Q := Q) (hv := hv), i6]
      exact upto_step_some _ _ _ _ _
    · rw [View.writes_append, t7, i7]
      exact upto_step _ _ _ _

end

end Cert.KernelIdeal.Hand

end
-- ==== Proof.Run.lean ====
/-
  What the body leaves, over the extended reals: the codes' block, the sixteen lanes of the scales' block, the running
  sum, and at the last column block the result's block.
-/
module

public import proofs.«01_k».proof.Proof.Trip
public import proofs.«01_k».proof.Proof.KernelIdealFrame

@[expose] public section

noncomputable section

namespace Cert.KernelIdeal.Hand

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem mask_apply (i : grid0.Coords) (r : Fin 16) (l : Fin 128) :
    k0_pay124 i (ix2 r l) = BitVec.ofBool (decide (l.val / 16 = (i 1).val % 8)) := by
  pointwise [k0_pay124]
  generalize i 1 = b
  clear i r
  revert l b
  decide +kernel

theorem read_whole {d : Fin 2 → ℕ} {e : EltTy} (m : Memref sig .tc .vmem ⟨2, d⟩ e) (f : BufTy.Contents (Elt Ideal) m.view.ty)
    (inb : ∀ a, (![0, 0] : Fin 2 → ℕ) a + (⟨2, d⟩ : Shape).size a ≤ (⟨2, d⟩ : Shape).size a) :
    m.view.readAt (Elt Ideal) (Rect.unit (s := ⟨2, d⟩) ![0, 0] (⟨2, d⟩ : Shape).size inb).toLoadRect f = m.view.read (Elt Ideal) f :=
  funext fun y => readAt_unit m f _ _ inb y y (Fin.forall_fin_two.mpr ⟨(Nat.zero_add _).symm, (Nat.zero_add _).symm⟩)

theorem read_store {d : Fin 2 → ℕ} {e : EltTy} (m : Memref sig .tc .vmem ⟨2, d⟩ e) (f : BufTy.Contents (Elt Ideal) m.view.ty)
    (inb : ∀ a, (![0, 0] : Fin 2 → ℕ) a + (⟨2, d⟩ : Shape).size a ≤ (⟨2, d⟩ : Shape).size a)
    (w : (⟨2, d⟩ : Shape).Idx → Elt Ideal e) (L : List (View.Piece (Elt Ideal) ⟨2, d⟩ e)) :
    m.view.read (Elt Ideal) (m.view.writes (Elt Ideal) f ((⟨Rect.unit (s := ⟨2, d⟩) ![0, 0] (⟨2, d⟩ : Shape).size inb, w⟩ : View.Piece (Elt Ideal) ⟨2, d⟩ e) :: L)) = w :=
  funext fun y => View.read_writes_cons_unit_of_mem m.view f inb w L y y rfl (Fin.forall_fin_two.mpr ⟨(Nat.zero_add _).symm, (Nat.zero_add _).symm⟩)

/-- The codes of a block. -/
abbrev codesB (x : B) : FVec Ideal S1024x512 .fp8e4m3 := fun y => codeAt x (y 0) (y 1)
/-- The dequantised values of a block. -/
abbrev deqB (x : B) : B := fun y => deqAt x (y 0) (y 1)
/-- The scales' block once column block `b` has stored its sixteen lanes over `old`. -/
abbrev scalesB (b : ℕ) (x : B) (old : FVec Ideal S1024x128 .f32) : FVec Ideal S1024x128 .f32 :=
  fun y => if (lane y).val / 16 = b % 8 then bscale x (y 0) ⟨(y 1).val % 16, by omega⟩ else old y
/-- The running sum after a column block. -/
abbrev accB (i : grid0.Coords) (x : B) (w : FVec Ideal S3584x512 .bf16) (old : FVec Ideal S1024x3584 .f32) : FVec Ideal S1024x3584 .f32 :=
  k0_pay4 (F := Ideal) (if cond1 i = 1#1 then k0_pay123 (F := Ideal) else old) (deqB x) w

theorem pay4_congr {a a' : FVec Ideal S1024x3584 .f32} {b b' : B} {w w' : FVec Ideal S3584x512 .bf16} (ha : a = a') (hb : b = b') (hw : w = w') :
    k0_pay4 (F := Ideal) a b w = k0_pay4 (F := Ideal) a' b' w' := by
  subst ha hb hw; rfl

set_option maxHeartbeats 4000000 in
/-- The body run with the values it leaves. -/
theorem kernelRunV (c : Dev nD) (i : grid0.Coords)
    (arg2 : Memref sig .tc .vmem S1024x512 .bf16) (harg2 : arg2.IsWhole) (arg3 : Memref sig .tc .vmem S3584x512 .bf16) (harg3 : arg3.IsWhole)
    (arg4 : Memref sig .tc .vmem S1024x3584 .bf16) (harg4 : arg4.IsWhole) (arg5 : Memref sig .tc .vmem S1024x512 .fp8e4m3) (harg5 : arg5.IsWhole)
    (arg6 : Memref sig .tc .vmem S1024x128 .f32) (harg6 : arg6.IsWhole) (arg7 : Memref sig .tc .vmem S1024x512 .bf16) (harg7 : arg7.IsWhole)
    (arg8 : Memref sig .tc .vmem S1024x3584 .f32) (harg8 : arg8.IsWhole) (K : PUnit → sProp 𝕄)
    (X : B) (W : FVec Ideal S3584x512 .bf16) (D6 : FVec Ideal S1024x128 .f32) (D8 : FVec Ideal S1024x3584 .f32) :
    iprop(owns (c : Thread nD τ) arg2 fullShare X ∗ owns (c : Thread nD τ) arg3 fullShare W
        ∗ (∃ d, owns (c : Thread nD τ) arg4 fullShare d) ∗ (∃ d, owns (c : Thread nD τ) arg5 fullShare d)
        ∗ owns (c : Thread nD τ) arg6 fullShare D6 ∗ (∃ d, owns (c : Thread nD τ) arg7 fullShare d)
        ∗ owns (c : Thread nD τ) arg8 fullShare D8
        ∗ (iprop(owns (c : Thread nD τ) arg2 fullShare X ∗ owns (c : Thread nD τ) arg3 fullShare W
        ∗ (∃ d, ⌜k0_cond2 i = 1#1 → d = k0_pay5 (F := Ideal) (accB i X W D8)⌝ ∗ owns (c : Thread nD τ) arg4 fullShare d) ∗ owns (c : Thread nD τ) arg5 fullShare (codesB X)
        ∗ owns (c : Thread nD τ) arg6 fullShare (scalesB (i 1).val X D6) ∗ (∃ d, owns (c : Thread nD τ) arg7 fullShare d)
        ∗ owns (c : Thread nD τ) arg8 fullShare (accB i X W D8)) -∗ K ⟨⟩))
      ⊢ wp frame (wpE (defs₀ (F := Ideal)) Variants.none c none) Set.univ
          (cc0_mx_dgrad i arg2 harg2 arg3 harg3 arg4 harg4 arg5 harg5 arg6 harg6 arg7 harg7 arg8 harg8) K := by
  simp only [cc0_mx_dgrad_eq_skeleton]; unfold cc0_mx_dgrad_skel
  unfold owns
  iintro ⟨⟨%f2, %e2, H2⟩, ⟨%f3, %e3, H3⟩, ⟨%d4, %f4, -, H4⟩, ⟨%d5, %f5, -, H5⟩, ⟨%f6, %e6, H6⟩, ⟨%d7, %f7, -, H7⟩, ⟨%f8, %e8, H8⟩, Hk⟩
  subst e2 e3 e6 e8
  have hL := loop_upto Variants.none c none i arg2 harg2 arg3 harg3 arg4 harg4 arg5 harg5 arg6 harg6 arg7 harg7 arg8 harg8 (k0_pay124 i) 0#32 f2 f5 f6 f7 (fun l => l.val / 16 = (i 1).val % 8) (mask_apply i) 32 le_rfl
  have h5 : arg5.view.read (Elt Ideal) (arg5.view.writes (Elt Ideal) f5 (lL Variants.none c none i arg2 harg2 arg3 harg3 arg4 harg4 arg5 harg5 arg6 harg6 arg7 harg7 arg8 harg8 (k0_pay124 i) 0#32 f2 f5 f6 f7 32).1) = codesB (arg2.view.read (Elt Ideal) f2) :=
    funext fun y => (hL.1 y).trans (if_pos (by have h : (y 0).val < 1024 := (y 0).isLt; omega))
  have h6 : arg6.view.read (Elt Ideal) (arg6.view.writes (Elt Ideal) f6 (lL Variants.none c none i arg2 harg2 arg3 harg3 arg4 harg4 arg5 harg5 arg6 harg6 arg7 harg7 arg8 harg8 (k0_pay124 i) 0#32 f2 f5 f6 f7 32).2.1) = scalesB (i 1).val (arg2.view.read (Elt Ideal) f2) (arg6.view.read (Elt Ideal) f6) :=
    funext fun y => (hL.2.1 y).trans (if_pos (by have h : (y 0).val < 1024 := (y 0).isLt; omega))
  have h7 (inb : ∀ a, (![0, 0] : Fin 2 → ℕ) a + S1024x512.size a ≤ S1024x512.size a) :
      arg7.view.readAt (Elt Ideal) (Rect.unit (s := S1024x512) ![0, 0] S1024x512.size inb).toLoadRect (arg7.view.writes (Elt Ideal) f7 (lL Variants.none c none i arg2 harg2 arg3 harg3 arg4 harg4 arg5 harg5 arg6 harg6 arg7 harg7 arg8 harg8 (k0_pay124 i) 0#32 f2 f5 f6 f7 32).2.2) = deqB (arg2.view.read (Elt Ideal) f2) :=
    (read_whole arg7 _ _).trans (funext fun y => (hL.2.2 y).trans (if_pos (by have h : (y 0).val < 1024 := (y 0).isLt; omega)))
  by_cases hc1 : cond1 i = 1#1 <;> by_cases hc2 : k0_cond2 i = 1#1
  all_goals
    sl_exec
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap
      · iexists _; isplitr; swap; · iexact H4
        ipureintro; rfl
      ipureintro
      intro h
      first
        | exact absurd h hc2
        | refine (read_store arg4 _ _ _ _).trans (congrArg (k0_pay5 (F := Ideal)) ((read_whole arg8 _ _).trans ((read_store arg8 _ _ _ _).trans ?_)))
          unfold accB
          first
            | rw [if_pos hc1]
              exact pay4_congr ((read_whole arg8 _ _).trans (read_store arg8 _ _ _ _)) rfl (read_whole arg3 _ _)
            | rw [if_neg hc1]
              exact pay4_congr (read_whole arg8 _ _) rfl (read_whole arg3 _ _)
    isplitl [H5]
    · iexists _; isplitr; swap; · iexact H5
      ipureintro
      exact h5
    isplitl [H6]
    · iexists _; isplitr; swap; · iexact H6
      ipureintro
      exact h6
    isplitl [H7]
    · iexists _, _; isplitr; swap; · iexact H7
      ipureintro; rfl
    iexists _; isplitr; swap; · iexact H8
    ipureintro
    refine (read_store arg8 _ _ _ _).trans ?_
    unfold accB
    first
      | rw [if_pos hc1]
        exact pay4_congr ((read_whole arg8 _ _).trans (read_store arg8 _ _ _ _)) rfl (read_whole arg3 _ _)
      | rw [if_neg hc1]
        exact pay4_congr (read_whole arg8 _ _) rfl (read_whole arg3 _ _)

end Cert.KernelIdeal.Hand

end
-- ==== Proof.KerRun.lean ====
/-
  The kernel's run with what every point leaves: the codes and scales of its block, the running sum over the column
  blocks in the scratch accumulator, and at the last column block of a row of the grid the result's block.
-/
module

public import proofs.«01_k».proof.Proof.Run
public import proofs.«01_k».proof.Proof.Gen.KernelIdeal.Points

@[expose] public section

noncomputable section

namespace Cert.KernelIdeal.Hand

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ) (ρ : Dev nD → PrngReg)

abbrev XA := FVec Ideal S18432x18944 .bf16
abbrev WA := FVec Ideal S3584x18944 .bf16

/-- Block (`a`, `b`) of the activations. -/
def xB (x : XA) (a b : ℕ) : B :=
  fun y => x (ix2 ⟨(1024 * a + (y 0).val) % 18432, by omega⟩ ⟨(512 * b + (y 1).val) % 18944, by omega⟩)
/-- Column block `b` of the weights. -/
def wB (w : WA) (b : ℕ) : FVec Ideal S3584x512 .bf16 :=
  fun y => w (ix2 (⟨(y 0).val, (y 0).isLt⟩ : Fin 3584) ⟨(512 * b + (y 1).val) % 18944, by omega⟩)
/-- The running sum of row block `a` over the column blocks before `n`. -/
def accN (x : XA) (w : WA) (a : ℕ) : ℕ → FVec Ideal S1024x3584 .f32
  | 0 => k0_pay123 (F := Ideal)
  | n + 1 => k0_pay4 (F := Ideal) (accN x w a n) (deqB (xB x a n)) (wB w n)

theorem coords_eq : ∀ t : Fin cfg0.N, (grid0.coords t 0).val = t.val / 37 ∧ (grid0.coords t 1).val = t.val % 37 :=
  (by decide +kernel : ∀ t : Fin grid0.N, _)
theorem index0 : ∀ t : Fin cfg0.N, win0_0.index t (0 : Fin 2) = t.val / 37 ∧ win0_0.index t (1 : Fin 2) = t.val % 37 :=
  (by decide +kernel : ∀ t : Fin grid0.N, _)
theorem index1 : ∀ t : Fin cfg0.N, win0_1.index t (0 : Fin 2) = 0 ∧ win0_1.index t (1 : Fin 2) = t.val % 37 :=
  (by decide +kernel : ∀ t : Fin grid0.N, _)

theorem cond1_iff (i : grid0.Coords) : cond1 i = 1#1 ↔ (i 1).val = 0 := by
  unfold cond1
  generalize i 1 = b
  clear i
  revert b
  decide +kernel
theorem cond2_iff (i : grid0.Coords) : k0_cond2 i = 1#1 ↔ (i 1).val = 36 := by
  unfold k0_cond2
  generalize i 1 = b
  clear i
  revert b
  decide +kernel

/-- What the body leaves in window `w`'s buffer at point `t`, if it found `Y` there. -/
def vafter (x : XA) (w : WA) : (k : Fin cfg0.W) → (t : Fin cfg0.N) → ((cfg0.win k).block.Idx → Elt Ideal (cfg0.win k).elt) →
    ((cfg0.win k).block.Idx → Elt Ideal (cfg0.win k).elt) → Prop := fun
  | 0 => fun t Y X => X = Y
  | 1 => fun t Y X => X = Y
  | 2 => fun t Y X => t.val % 37 = 36 → (X : FVec Ideal S1024x3584 .bf16) = k0_pay5 (F := Ideal) (accN x w (t.val / 37) 37)
  | 3 => fun t Y X => (X : FVec Ideal S1024x512 .fp8e4m3) = codesB (xB x (t.val / 37) (t.val % 37))
  | 4 => fun t Y X => (X : FVec Ideal S1024x128 .f32) = scalesB (t.val % 37) (xB x (t.val / 37) (t.val % 37)) (Y : FVec Ideal S1024x128 .f32)
  | ⟨_ + 5, h⟩ => absurd h (Nat.not_lt.2 (Nat.le_add_left _ _))

/-- The scratch buffers before point `t`: the accumulator holds the sum of the column blocks seen, but at the first. -/
def vPhi (x : XA) (w : WA) (c : Dev nD) (t : Fin (cfg0.N + 1)) : sProp 𝕄 :=
  iprop(iprop((∃ d, owns (c : Thread nD τ) (Memref.whole cc0_scratch0) fullShare d)
      ∗ (∃ d, ⌜t.val % 37 ≠ 0 → d = accN x w (t.val / 37) (t.val % 37)⌝ ∗ owns (c : Thread nD τ) (Memref.whole cc0_scratch1) fullShare d))
    ∗ ∃ r, prngReg c r)

/-- The proof data on core `c`. -/
def vdat (c : Dev nD) : RDat τ (Elt Ideal) Unit ℕ (UR sig nD τ) ℕ cfg0 c where
  A w := Gen.V m c (Pipeline.arrRef spec0 w)
  after := vafter (Gen.V m c main_arg0) (Gen.V m c main_arg1)
  Φ := vPhi (Gen.V m c main_arg0) (Gen.V m c main_arg1) c
  q _ := fullShare
  owed _ := 0

theorem fetched0 (c : Dev nD) (t : Fin cfg0.N) (d) : (vdat m c).fetched 0 t d = xB (Gen.V m c main_arg0) (t.val / 37) (t.val % 37) := by
  funext y
  show Gen.V m c main_arg0 (((cfg0.win 0).blk t).view.emb y) = _
  unfold xB
  refine congrArg _ (funext fun a => Fin.ext ?_)
  obtain ⟨e0, e1⟩ := index0 t
  have ht : t.val < 666 := t.isLt
  match a with
  | ⟨0, _⟩ =>
    have h : (y 0).val < 1024 := (y 0).isLt
    show win0_0.index t (0 : Fin 2) * 1024 + 1 * (y 0).val = (1024 * (t.val / 37) + (y 0).val) % 18432; omega
  | ⟨1, _⟩ =>
    have h : (y 1).val < 512 := (y 1).isLt
    show win0_0.index t (1 : Fin 2) * 512 + 1 * (y 1).val = (512 * (t.val % 37) + (y 1).val) % 18944; omega

theorem fetched1 (c : Dev nD) (t : Fin cfg0.N) (d) : (vdat m c).fetched 1 t d = wB (Gen.V m c main_arg1) (t.val % 37) := by
  funext y
  show Gen.V m c main_arg1 (((cfg0.win 1).blk t).view.emb y) = _
  unfold wB
  refine congrArg _ (funext fun a => Fin.ext ?_)
  obtain ⟨e0, e1⟩ := index1 t
  have ht : t.val < 666 := t.isLt
  match a with
  | ⟨0, _⟩ =>
    show win0_1.index t (0 : Fin 2) * 3584 + 1 * (y 0).val = (y 0).val; omega
  | ⟨1, _⟩ =>
    have h : (y 1).val < 512 := (y 1).isLt
    show win0_1.index t (1 : Fin 2) * 512 + 1 * (y 1).val = (512 * (t.val % 37) + (y 1).val) % 18944; omega

/-- The accumulator after point `t`. -/
theorem acc_step (x : XA) (w : WA) (t : Fin cfg0.N) (X : B) (W : FVec Ideal S3584x512 .bf16) (D : FVec Ideal S1024x3584 .f32)
    (hX : X = xB x (t.val / 37) (t.val % 37)) (hW : W = wB w (t.val % 37)) (hD : t.val % 37 ≠ 0 → D = accN x w (t.val / 37) (t.val % 37)) :
    accB (grid0.coords t) X W D = accN x w (t.val / 37) (t.val % 37 + 1) := by
  subst hX hW
  unfold accB
  show _ = k0_pay4 (F := Ideal) _ _ _
  by_cases h : t.val % 37 = 0
  · rw [if_pos ((cond1_iff _).mpr ((coords_eq t).2.trans h)), h]; rfl
  · rw [if_neg (fun e => h ((coords_eq t).2.symm.trans ((cond1_iff _).mp e))), hD h]

set_option maxHeartbeats 1000000 in
/-- The body's obligation at every point. -/
theorem vbody (c : Dev nD) : (vdat m c).BodyObligation (defs₀ (F := Ideal)) Variants.none () Set.univ := fun t Y hY => by
  obtain ⟨d0, e0⟩ := (vdat m c).finds_in_eq_fetched 0 rfl (fun _ _ _ => rfl) (fun _ _ _ h => h) t (Y 0) (hY 0)
  obtain ⟨d1, e1⟩ := (vdat m c).finds_in_eq_fetched 1 rfl (fun _ _ _ => rfl) (fun _ _ _ h => h) t (Y 1) (hY 1)
  rw [fetched0] at e0
  rw [fetched1] at e1
  have hk : (grid0.coords t 1).val = t.val % 37 := (coords_eq t).2
  rw [bigSep_W0, bigSep_W0, defs₀_row]
  unfold bodyAt0
  rw [show (vdat m c).Φ t.castSucc = vPhi (Gen.V m c main_arg0) (Gen.V m c main_arg1) c t.castSucc from rfl,
    show (vdat m c).Φ t.succ = vPhi (Gen.V m c main_arg0) (Gen.V m c main_arg1) c t.succ from rfl,
    show (vdat m c).owesAt () t.succ = (vdat m c).owesAt () t.castSucc from rfl]
  unfold vPhi
  iintro ⟨⟨⟨H7, ⟨%D8, %e8, H8⟩⟩, Hg⟩, HO, H2, H3, H4, H5, H6⟩
  have hacc := acc_step (Gen.V m c main_arg0) (Gen.V m c main_arg1) t (Y 0) (Y 1) D8 e0 e1 e8
  iapply (kernelRunV c (grid0.coords t) _ _ _ _ _ _ _ _ _ _ _ _ _ _ _ (Y 0) (Y 1) (Y 4) D8)
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexact H8
  iintro ⟨H2, H3, ⟨%d4, %h4, H4⟩, H5, H6, H7, H8⟩
  isplitl [H7 H8 Hg]
  · isplitl [H7 H8]
    · isplitl [H7]; · iexact H7
      iexists _; isplitr; swap; · iexact H8
      ipureintro
      intro h
      rw [hacc]
      have h' : (t.val + 1) % 37 ≠ 0 := h
      show accN _ _ (t.val / 37) (t.val % 37 + 1) = accN _ _ ((t.val + 1) / 37) ((t.val + 1) % 37)
      rw [show (t.val + 1) / 37 = t.val / 37 by omega, show (t.val + 1) % 37 = t.val % 37 + 1 by omega]
    iexact Hg
  isplitl [HO]; · iexact HO
  isplitl [H2]
  · iexists _; isplitr; swap; · iexact H2
    ipureintro; exact rfl
  isplitl [H3]
  · iexists _; isplitr; swap; · iexact H3
    ipureintro; exact rfl
  isplitl [H4]
  · iexists d4; isplitr; swap; · iexact H4
    ipureintro
    intro h
    refine (h4 ((cond2_iff _).mpr (hk.trans h))).trans (congrArg (k0_pay5 (F := Ideal)) (hacc.trans ?_))
    rw [h]
  isplitl [H5]
  · iexists _; isplitr; swap; · iexact H5
    ipureintro
    exact congrArg codesB e0
  iexists _; isplitr; swap; · iexact H6
  ipureintro
  show scalesB _ (Y 0) (Y 4) = scalesB _ _ (Y 4)
  rw [hk, e0]

set_option maxHeartbeats 800000 in
set_option backward.isDefEq.respectTransparency.types false in
/-- Every run of @main terminates with arrays that the points' contents make. -/
theorem vrun_main :
    θ_run defs (onTc (τ := τ) (main (F := Ideal))) (s₀ m ρ)
      (fun r => Pipeline.RDat.FramePost cfg0 (fun c => vdat m c) (Gen.V m) r ∧ r.2.sem = fun _ => 0) :=
  Pipeline.RDat.θ_run_frame_track cfgs (0 : Fin 1) launch0 defs₀ Variants.none (fun c => vdat m c) m ρ main
    (hbody := fun c => vbody m c) (hshare := fun c => (vdat m c).share_full fun _ => rfl)
    (howed := fun _ _ => rfl) (V := Gen.V m) (hmain := hmain m Variants.none) (hA := fun _ _ => rfl)
    (hin := fun c => by
      rw [PhiA_eq]
      show _ ⊢ vPhi _ _ c 0
      unfold vPhi
      iintro ⟨⟨H7, ⟨%d, H8⟩⟩, Hg⟩
      isplitl [H7 H8]
      · isplitl [H7]; · iexact H7
        iexists d; isplitr; · ipureintro; intro h; exact absurd rfl h
        iexact H8
      iexact Hg)
    (hout := fun c => by
      rw [PhiA_eq]
      show vPhi _ _ c (Fin.last _) ⊢ _
      unfold vPhi
      iintro ⟨⟨H7, ⟨%d, -, H8⟩⟩, Hg⟩
      isplitl [H7 H8]
      · isplitl [H7]; · iexact H7
        iexists d; iexact H8
      iexact Hg) (Q' := _)

end Cert.KernelIdeal.Hand

end
-- ==== Proof.RefRead.lean ====
/-
  The reference's three results, element by element over the extended reals: the codes are `Scale.code` of the element
  and its block's scale, the scales are `Scale.ladder` of the greatest magnitude of the block, and the product is the sum,
  over the columns, of code times scale times weight.
-/
module

public import proofs.«01_k».proof.Proof.RefValue
public import proofs.«01_k».proof.Proof.Scale
public import Idealize.ShloMosaic.Lib.Pointwise

@[expose] public section

noncomputable section

namespace Cert.ReferenceIdeal.Ref

open Cert.ReferenceIdeal Cert.ReferenceIdeal.Gen Cert.Scale
open Idealize.ShloMosaic Idealize.ShloMosaic.TcCoe Idealize.ShloMosaic.Tactic

/-- The greatest magnitudes of the blocks of 32. -/
def refMax (x : FVec Ideal S18432x18944 .bf16) : FVec Ideal S18432x592 .f32 :=
  multiReduction FKind.maximumf [2] S18432x592 (absf (k0_pay3 x)) (4286578688#32) reduces_S18432x592x32_S18432x592 k0_pay4._proof_2
    k0_pay4._proof_3

/-- The exponents of the scales, from the greatest magnitudes. -/
def expoV (v5 : FVec Ideal S18432x592x1 .f32) : FVec Ideal S18432x592x1 .f32 :=
  let v7 := divf v5 (broadcast S18432x592x1 (FloatOps.ofBits FTy.f32 1138753536#32))
  select (andi (cmpf CmpFPredicate.oge v7 (broadcast S18432x592x1 (FloatOps.ofBits FTy.f32 8388608#32))) (cmpf CmpFPredicate.ole v5 (broadcast S18432x592x1 (FloatOps.ofBits FTy.f32 2139095039#32))))
    (addf (floor (divf (log v7) (log (broadcast S18432x592x1 (FloatOps.ofBits FTy.f32 1073741824#32))))) (broadcast S18432x592x1 (FloatOps.ofBits FTy.f32 1065353216#32)))
    (broadcast S18432x592x1 (FloatOps.ofBits FTy.f32 0#32))

theorem pay4_eq (x : FVec Ideal S18432x18944 .bf16) : k0_pay4 x = expoV (shapeCast S18432x592x1 (refMax x) shapeCasts_S18432x592_S18432x592x1) := rfl

/-- Block `b` of row `r`. -/
abbrev blk (x : FVec Ideal S18432x18944 .bf16) (r : Fin 18432) (b : Fin 592) : Fin 32 → EReal :=
  fun i => x (ix2 r ⟨b.val * 32 + i.val, by omega⟩)

theorem blk_at (x : FVec Ideal S18432x18944 .bf16) (r : Fin 18432) (c : Fin 18944) :
    blk x r ⟨c.val / 32, by omega⟩ ⟨c.val % 32, by omega⟩ = x (ix2 r c) := by
  show x _ = x _
  congr 2
  exact Fin.ext (by show c.val / 32 * 32 + c.val % 32 = c.val; omega)

theorem pay3_apply (x : FVec Ideal S18432x18944 .bf16) (r : Fin 18432) (b : Fin 592) (i : Fin 32) :
    (k0_pay3 x : FVec Ideal S18432x592x32 .f32) (ix3 r b i) = blk x r b i := by
  pointwise [k0_pay3]

theorem c_ninf : Ideal.ofBits .f32 0xFF800000#32 = (⊥ : EReal) := by simp [Ideal.ofBits, Ideal.ieee]

theorem refMax_apply (x : FVec Ideal S18432x18944 .bf16) (r : Fin 18432) (b : Fin 592) : refMax x (ix2 r b) = amax (blk x r b) := by
  pointwise [refMax]
  simp only [pay3_apply, c_ninf]
  rfl

theorem expoV_apply (v : FVec Ideal S18432x592x1 .f32) (r : Fin 18432) (b : Fin 592) : expoV v (ix3 r b 0) = expo (v (ix3 r b 0)) := by
  pointwise [expoV]
  unfold expo Scalar.select
  by_cases h1 : Ideal.ofBits FTy.f32 8388608#32 ≤ Ideal.div (v (ix3 r b 0)) (Ideal.ofBits FTy.f32 1138753536#32) <;>
    by_cases h2 : v (ix3 r b 0) ≤ Ideal.ofBits FTy.f32 2139095039#32 <;> simp [h1, h2, IntOp.andi]

theorem pay4_apply (x : FVec Ideal S18432x18944 .bf16) (r : Fin 18432) (b : Fin 592) :
    (k0_pay4 x : FVec Ideal S18432x592x1 .f32) (ix3 r b 0) = expo (amax (blk x r b)) := by
  have h : shapeCast S18432x592x1 (refMax x) shapeCasts_S18432x592_S18432x592x1 (ix3 r b 0) = refMax x (ix2 r b) := by
    generalize refMax x = y
    pointwise []
  rw [pay4_eq, expoV_apply, h, refMax_apply]

/-- The scale of a block. -/
abbrev sc (x : FVec Ideal S18432x18944 .bf16) (r : Fin 18432) (b : Fin 592) : EReal := ladder (amax (blk x r b))

theorem pay5_apply (x : FVec Ideal S18432x18944 .bf16) (r : Fin 18432) (b : Fin 592) :
    (k0_pay5 x : FVec Ideal S18432x592x1 .f32) (ix3 r b 0) = sc x r b := by
  have : (k0_pay5 x : FVec Ideal S18432x592x1 .f32) (ix3 r b 0) = Ideal.exp2 ((k0_pay4 x : FVec Ideal S18432x592x1 .f32) (ix3 r b 0)) := by
    pointwise [k0_pay5]
    rfl
  rw [this, pay4_apply, (scale_eq _ (amax_nonneg _)).1]

theorem G4_apply (x : FVec Ideal S18432x18944 .bf16) (w : FVec Ideal S3584x18944 .bf16) (r : Fin 18432) (b : Fin 592) : G4 (F := Ideal) x w (ix2 r b) = sc x r b := by
  rw [← pay5_apply]
  unfold G4
  generalize (k0_pay5 x : FVec Ideal S18432x592x1 .f32) = y
  pointwise [k0_pay2]

theorem pay6_apply (x : FVec Ideal S18432x18944 .bf16) (r : Fin 18432) (b : Fin 592) (i : Fin 32) :
    (k0_pay6 x : FVec Ideal S18432x592x32 .fp8e4m3) (ix3 r b i) = code (blk x r b i) (sc x r b) := by
  have : (k0_pay6 x : FVec Ideal S18432x592x32 .fp8e4m3) (ix3 r b i)
      = min (Ideal.ofBits .f32 0x43E00000#32) (max (Ideal.ofBits .f32 0xC3E00000#32)
        (((k0_pay3 x : FVec Ideal S18432x592x32 .f32) (ix3 r b i) : EReal) * Ideal.exp2 (0 - (k0_pay4 x : FVec Ideal S18432x592x1 .f32) (ix3 r b 0)))) := by
    pointwise [k0_pay6]
    rfl
  rw [this, pay3_apply, pay4_apply, (scale_eq _ (amax_nonneg _)).2]
  rfl

theorem G3_apply (x : FVec Ideal S18432x18944 .bf16) (w : FVec Ideal S3584x18944 .bf16) (r : Fin 18432) (c : Fin 18944) :
    G3 (F := Ideal) x w (ix2 r c) = code (x (ix2 r c)) (sc x r ⟨c.val / 32, by omega⟩) := by
  have : G3 (F := Ideal) x w (ix2 r c) = (k0_pay6 x : FVec Ideal S18432x592x32 .fp8e4m3) (ix3 r ⟨c.val / 32, by omega⟩ ⟨c.val % 32, by omega⟩) := by
    unfold G3
    generalize (k0_pay6 x : FVec Ideal S18432x592x32 .fp8e4m3) = y
    pointwise [k0_pay1]
  rw [this, pay6_apply, blk_at]

theorem G2_apply (x : FVec Ideal S18432x18944 .bf16) (w : FVec Ideal S3584x18944 .bf16) (r : Fin 18432) (n : Fin 3584) :
    G2 (F := Ideal) x w (ix2 r n) = ∑ c : Fin 18944, code (x (ix2 r c)) (sc x r ⟨c.val / 32, by omega⟩) * sc x r ⟨c.val / 32, by omega⟩ * (w (ix2 n c) : EReal) := by
  unfold G2
  pointwise [k0_pay7]
  refine Finset.sum_congr rfl fun c _ => ?_
  rw [pay6_apply, pay5_apply, blk_at]

end Cert.ReferenceIdeal.Ref

end
-- ==== Proof.KerValue.lean ====
/-
  The kernel's three arrays after the run are the reference's: the codes and the scales block by block, and the product
  with its sum over the 18944 columns cut into the kernel's 37 column blocks.
-/
module

public import proofs.«01_k».proof.Proof.KerRun
public import proofs.«01_k».proof.Proof.RefRead
public import Idealize.ShloMosaic.Lib.Pointwise.Sums
public import Idealize.ShloMosaic.Lib.Pipeline.ArrRel
public import Idealize.ShloMosaic.Lib.Pipeline.ValueKit

@[expose] public section

set_option maxHeartbeats 1000000

noncomputable section

namespace Cert.KernelIdeal.Hand

open Cert.KernelIdeal Cert.KernelIdeal.Gen Cert.Scale
open Idealize.ShloMosaic Idealize.ShloMosaic.TcCoe Idealize.ShloMosaic.Tactic
open Idealize.SL.Sem
open Idealize.ShloMosaic.Pipeline (Dat RDat)
open Cert.ReferenceIdeal.Ref (G2 G3 G4 blk sc G2_apply G3_apply G4_apply)

variable (m : (ℓ : Loc nD τ sig) → Buf (Elt Ideal) ℓ) (ρ : Dev nD → PrngReg)

/-! The kernel's blocks in the arrays. -/

abbrev gr (a : ℕ) (ha : a < 18) (r : Fin 1024) : Fin 18432 := ⟨1024 * a + r.val, by omega⟩
abbrev gc (b : ℕ) (hb : b < 37) (c : Fin 512) : Fin 18944 := ⟨512 * b + c.val, by omega⟩

theorem xB_apply (x : XA) (a b : ℕ) (ha : a < 18) (hb : b < 37) (r : Fin 1024) (c : Fin 512) : xB x a b (ix2 r c) = x (ix2 (gr a ha r) (gc b hb c)) := by
  show x (ix2 _ _) = _
  congr 2
  · exact Fin.ext (by show (1024 * a + r.val) % 18432 = 1024 * a + r.val; omega)
  · exact Fin.ext (by show (512 * b + c.val) % 18944 = 512 * b + c.val; omega)

theorem wB_apply (w : WA) (b : ℕ) (hb : b < 37) (n : Fin 3584) (c : Fin 512) : wB w b (ix2 n c) = w (ix2 n (gc b hb c)) := by
  show w (ix2 _ _) = _
  congr 2
  exact Fin.ext (by show (512 * b + c.val) % 18944 = 512 * b + c.val; omega)

theorem bscale_eq (x : XA) (a b : ℕ) (ha : a < 18) (hb : b < 37) (r : Fin 1024) (q : Fin 16) :
    bscale (xB x a b) r q = sc x (gr a ha r) ⟨16 * b + q.val, by omega⟩ := by
  have : bblk (xB x a b) r q = blk x (gr a ha r) ⟨16 * b + q.val, by omega⟩ := funext fun i => by
    show xB x a b (ix2 r _) = _
    rw [xB_apply x a b ha hb]
    show x (ix2 _ _) = x (ix2 _ _)
    congr 2
    exact Fin.ext (by show 512 * b + (q.val * 32 + i.val) = (16 * b + q.val) * 32 + i.val; omega)
  show ladder (amax (bblk _ _ _)) = ladder (amax (blk _ _ _))
  rw [this]

theorem blkIx (b : ℕ) (hb : b < 37) (c : Fin 512) :
    (⟨16 * b + c.val / 32, by omega⟩ : Fin 592) = ⟨(gc b hb c).val / 32, by omega⟩ :=
  Fin.ext (by show 16 * b + c.val / 32 = (512 * b + c.val) / 32; omega)

theorem codeAt_eq (x : XA) (a b : ℕ) (ha : a < 18) (hb : b < 37) (r : Fin 1024) (c : Fin 512) :
    codeAt (xB x a b) r c = code (x (ix2 (gr a ha r) (gc b hb c))) (sc x (gr a ha r) ⟨(gc b hb c).val / 32, by omega⟩) := by
  unfold codeAt
  rw [xB_apply x a b ha hb, bscale_eq x a b ha hb]
  rw [blkIx b hb c]

theorem deqAt_eq (x : XA) (a b : ℕ) (ha : a < 18) (hb : b < 37) (r : Fin 1024) (c : Fin 512) :
    deqAt (xB x a b) r c = code (x (ix2 (gr a ha r) (gc b hb c))) (sc x (gr a ha r) ⟨(gc b hb c).val / 32, by omega⟩)
      * sc x (gr a ha r) ⟨(gc b hb c).val / 32, by omega⟩ := by
  unfold deqAt
  rw [codeAt_eq x a b ha hb, bscale_eq x a b ha hb, blkIx b hb c]

/-! The running sum. -/

theorem pay4_apply (A : FVec Ideal S1024x3584 .f32) (D : B) (W : FVec Ideal S3584x512 .bf16) (r : Fin 1024) (n : Fin 3584) :
    k0_pay4 (F := Ideal) A D W (ix2 r n) = (A (ix2 r n) : EReal) + ∑ c : Fin 512, (D (ix2 r c) : EReal) * (W (ix2 n c) : EReal) := by
  pointwise [k0_pay4]

theorem pay123_apply (r : Fin 1024) (n : Fin 3584) : k0_pay123 (F := Ideal) (ix2 r n) = (0 : EReal) := by
  pointwise [k0_pay123]

theorem pay5_apply (A : FVec Ideal S1024x3584 .f32) (r : Fin 1024) (n : Fin 3584) : k0_pay5 (F := Ideal) A (ix2 r n) = A (ix2 r n) := by
  pointwise [k0_pay5]

/-- One column's term of the product. -/
abbrev term (x : XA) (w : WA) (R : Fin 18432) (n : Fin 3584) (c : Fin 18944) : EReal :=
  code (x (ix2 R c)) (sc x R ⟨c.val / 32, by omega⟩) * sc x R ⟨c.val / 32, by omega⟩ * (w (ix2 n c) : EReal)

theorem accN_apply (x : XA) (w : WA) (a : ℕ) (ha : a < 18) (k : ℕ) (hk : k ≤ 37) (r : Fin 1024) (n : Fin 3584) :
    accN x w a k (ix2 r n) = ∑ j : Fin k, ∑ c : Fin 512, term x w (gr a ha r) n (gc j.val (by omega) c) := by
  induction k with
  | zero => exact pay123_apply r n
  | succ k ih =>
    rw [Fin.sum_univ_castSucc]
    show k0_pay4 (F := Ideal) _ _ _ _ = _
    rw [pay4_apply, ih (by omega)]
    refine congrArg (_ + ·) (Finset.sum_congr rfl fun c _ => ?_)
    rw [wB_apply w k (by omega)]
    show deqAt _ r c * _ = _
    rw [deqAt_eq x a k ha (by omega)]
    rfl

theorem out_eq (x : XA) (w : WA) (a : ℕ) (ha : a < 18) (r : Fin 1024) (n : Fin 3584) :
    k0_pay5 (F := Ideal) (accN x w a 37) (ix2 r n) = G2 (F := Ideal) x w (ix2 (gr a ha r) n) := by
  rw [pay5_apply, accN_apply x w a ha 37 le_rfl, G2_apply]
  refine Eq.trans ?_ (Fin.sum_univ_tiles (N := 18944) 37 512 (by norm_num) (term x w (gr a ha r) n)).symm
  refine Finset.sum_congr rfl fun j _ => Finset.sum_congr rfl fun c _ => ?_
  exact congrArg (term x w (gr a ha r) n) (Fin.ext (by show 512 * j.val + c.val = j.val * 512 + c.val; omega))

/-! The result windows: where their blocks lie, and when they are written back. -/

theorem index2 : ∀ t : Fin cfg0.N, win0_2.index t (0 : Fin 2) = t.val / 37 ∧ win0_2.index t (1 : Fin 2) = 0 :=
  (by decide +kernel : ∀ t : Fin grid0.N, _)
theorem index3 : ∀ t : Fin cfg0.N, win0_3.index t (0 : Fin 2) = t.val / 37 ∧ win0_3.index t (1 : Fin 2) = t.val % 37 :=
  (by decide +kernel : ∀ t : Fin grid0.N, _)
theorem index4 : ∀ t : Fin cfg0.N, win0_4.index t (0 : Fin 2) = t.val / 37 ∧ win0_4.index t (1 : Fin 2) = t.val % 37 / 8 :=
  (by decide +kernel : ∀ t : Fin grid0.N, _)
theorem flush2 : ∀ t : Fin cfg0.N, win0_2.flush t = true → t.val % 37 = 36 :=
  (by decide +kernel : ∀ t : Fin grid0.N, _)
theorem flush4 : ∀ t : Fin cfg0.N, win0_4.flush t = true → t.val % 37 % 8 = 7 ∨ t.val % 37 = 36 :=
  (by decide +kernel : ∀ t : Fin grid0.N, _)
theorem size4 : ∀ t : Fin cfg0.N, win0_4.flush t = true → (win0_4.xblock (grid0.coords t)).size (1 : Fin 2) ≤ 16 * (t.val % 37 % 8 + 1) :=
  (by decide +kernel : ∀ t : Fin grid0.N, _)

/-- What the scales' buffer holds after point `t`: lane groups up to this point's hold their blocks' scales. -/
theorem leaves4 (c : Dev nD) (n : ℕ) : ∀ (hn : n < cfg0.N) (X : FVec Ideal S1024x128 .f32), (vdat m c).Leaves 4 ⟨n, hn⟩ X →
    ∀ y : S1024x128.Idx, (lane y).val / 16 ≤ n % 37 % 8 →
      X y = bscale (xB (Gen.V m c main_arg0) (n / 37) (n % 37 / 8 * 8 + (lane y).val / 16)) (y 0) ⟨(y 1).val % 16, Nat.mod_lt _ (by norm_num)⟩ := by
  induction n with
  | zero =>
    intro hn X hX y hy
    obtain ⟨Y, _, h⟩ := hX
    have h : X = scalesB (0 % 37) (xB (Gen.V m c main_arg0) (0 / 37) (0 % 37)) Y := h
    have e : (lane y).val / 16 = 0 := by omega
    rw [h, e]
    unfold scalesB
    exact if_pos e
  | succ n ih =>
    intro hn X hX y hy
    obtain ⟨Y, hY, h⟩ := hX
    have h : X = scalesB ((n + 1) % 37) (xB (Gen.V m c main_arg0) ((n + 1) / 37) ((n + 1) % 37)) Y := h
    by_cases e : (lane y).val / 16 = (n + 1) % 37 % 8
    · rw [h, e, show (n + 1) % 37 / 8 * 8 + (n + 1) % 37 % 8 = (n + 1) % 37 by omega]
      unfold scalesB
      exact if_pos e
    · have h0 : (n + 1) % 37 ≠ 0 := fun h0 => by rw [h0] at hy e; omega
      have a1 : (n + 1) % 37 = n % 37 + 1 := by omega
      have a2 : (n + 1) / 37 = n / 37 := by omega
      have hk : n % 37 < 37 := Nat.mod_lt _ (by norm_num)
      rw [a1] at h hy e
      rw [a2] at h
      rw [a1, a2]
      have hf := (Pipeline.RDat.finds_of_pos (rd := vdat m c) (w := 4) (t := ⟨n + 1, hn⟩) (Pipeline.Window.fetch_out _ rfl _) (Nat.succ_ne_zero n) Y).mp hY
      have hL : (vdat m c).Leaves 4 ⟨n, Nat.lt_of_succ_lt hn⟩ Y := by
        rcases hf with hf | hf
        · have := flush4 ⟨n, Nat.lt_of_succ_lt hn⟩ hf
          dsimp only at this
          omega
        · exact hf
      have := ih _ Y hL y (by omega)
      rw [h, show (n % 37 + 1) / 8 * 8 = n % 37 / 8 * 8 by omega, ← this]
      unfold scalesB
      exact if_neg e

/-! The arrays after the run. -/

theorem final2 (c : Dev nD) (after) (hL : ∀ w u, (cfg0.win w).flush u = true → (vdat m c).Leaves w u (after w u)) :
    ((vdat m c).withAfter after).arrAt 2 cfg0.N = G2 (F := Ideal) (Gen.V m c main_arg0) (Gen.V m c main_arg1) :=
  Dat.arrAt_eq_of_covers ((vdat m c).withAfter after) 2 (G2 (F := Ideal) (Gen.V m c main_arg0) (Gen.V m c main_arg1)) (by decide +kernel) fun t hf y => by
    obtain ⟨Y, _, h⟩ := hL 2 t hf
    have ht : t.val < 666 := t.isLt
    have hk := flush2 t hf
    have h : after 2 t = k0_pay5 (F := Ideal) (accN (Gen.V m c main_arg0) (Gen.V m c main_arg1) (t.val / 37) 37) := h hk
    obtain ⟨e0, e1⟩ := index2 t
    let r : Fin 1024 := y 0
    let n : Fin 3584 := y 1
    have ey : win0_2.xinj (grid0.coords t) y = ix2 r n := funext fun a => match a with
      | ⟨0, _⟩ => rfl
      | ⟨1, _⟩ => rfl
    show after 2 t (win0_2.xinj (grid0.coords t) y) = _
    rw [ey, h, out_eq _ _ _ (by omega)]
    refine congrArg (G2 (F := Ideal) (Gen.V m c main_arg0) (Gen.V m c main_arg1)) (funext fun a => Fin.ext ?_)
    match a with
    | ⟨0, _⟩ => show 1024 * (t.val / 37) + (y 0).val = win0_2.index t (0 : Fin 2) * 1024 + 1 * (y 0).val; omega
    | ⟨1, _⟩ => show (y 1).val = win0_2.index t (1 : Fin 2) * 3584 + 1 * (y 1).val; omega

theorem final3 (c : Dev nD) (after) (hL : ∀ w u, (cfg0.win w).flush u = true → (vdat m c).Leaves w u (after w u)) :
    ((vdat m c).withAfter after).arrAt 3 cfg0.N = G3 (F := Ideal) (Gen.V m c main_arg0) (Gen.V m c main_arg1) :=
  Dat.arrAt_eq_of_covers ((vdat m c).withAfter after) 3 (G3 (F := Ideal) (Gen.V m c main_arg0) (Gen.V m c main_arg1)) (by decide +kernel) fun t hf y => by
    obtain ⟨Y, _, h⟩ := hL 3 t hf
    have ht : t.val < 666 := t.isLt
    have h : after 3 t = codesB (xB (Gen.V m c main_arg0) (t.val / 37) (t.val % 37)) := h
    obtain ⟨e0, e1⟩ := index3 t
    let r : Fin 1024 := y 0
    let n : Fin 512 := y 1
    have ey : win0_3.xinj (grid0.coords t) y = ix2 r n := funext fun a => match a with
      | ⟨0, _⟩ => rfl
      | ⟨1, _⟩ => rfl
    show after 3 t (win0_3.xinj (grid0.coords t) y) = _
    rw [ey, h]
    show codeAt _ r n = _
    rw [codeAt_eq _ _ _ (by omega) (by omega), ← G3_apply (Gen.V m c main_arg0) (Gen.V m c main_arg1)]
    refine congrArg (G3 (F := Ideal) (Gen.V m c main_arg0) (Gen.V m c main_arg1)) (funext fun a => Fin.ext ?_)
    match a with
    | ⟨0, _⟩ => show 1024 * (t.val / 37) + (y 0).val = win0_3.index t (0 : Fin 2) * 1024 + 1 * (y 0).val; omega
    | ⟨1, _⟩ => show 512 * (t.val % 37) + (y 1).val = win0_3.index t (1 : Fin 2) * 512 + 1 * (y 1).val; omega

theorem final4 (c : Dev nD) (after) (hL : ∀ w u, (cfg0.win w).flush u = true → (vdat m c).Leaves w u (after w u)) :
    ((vdat m c).withAfter after).arrAt 4 cfg0.N = G4 (F := Ideal) (Gen.V m c main_arg0) (Gen.V m c main_arg1) :=
  Dat.arrAt_eq_of_covers ((vdat m c).withAfter after) 4 (G4 (F := Ideal) (Gen.V m c main_arg0) (Gen.V m c main_arg1)) (by decide +kernel) fun t hf y => by
    have ht : t.val < 666 := t.isLt
    have hy0 : (y 0).val < 1024 := ((win0_4.xinj (grid0.coords t) y) 0).isLt
    have hy1 : (y 1).val < 128 := ((win0_4.xinj (grid0.coords t) y) 1).isLt
    have hs : (y 1).val < 16 * (t.val % 37 % 8 + 1) := lt_of_lt_of_le (y 1).isLt (size4 t hf)
    obtain ⟨e0, e1⟩ := index4 t
    let r : Fin 1024 := ⟨(y 0).val, hy0⟩
    let n : Fin 128 := ⟨(y 1).val, hy1⟩
    have h := leaves4 m c t.val t.isLt (after 4 t) (hL 4 t hf) (ix2 r n) (by show (y 1).val / 16 ≤ _; omega)
    have ey : win0_4.xinj (grid0.coords t) y = ix2 r n := funext fun a => match a with
      | ⟨0, _⟩ => rfl
      | ⟨1, _⟩ => rfl
    show after 4 t (win0_4.xinj (grid0.coords t) y) = _
    rw [ey, h]
    have hb : t.val % 37 / 8 * 8 + (y 1).val / 16 < 37 := by omega
    show bscale (xB _ _ (t.val % 37 / 8 * 8 + (y 1).val / 16)) r ⟨(y 1).val % 16, _⟩ = _
    rw [bscale_eq _ _ _ (by omega) hb, ← G4_apply (Gen.V m c main_arg0) (Gen.V m c main_arg1)]
    refine congrArg (G4 (F := Ideal) (Gen.V m c main_arg0) (Gen.V m c main_arg1)) (funext fun a => Fin.ext ?_)
    match a with
    | ⟨0, _⟩ => show 1024 * (t.val / 37) + (y 0).val = win0_4.index t (0 : Fin 2) * 1024 + 1 * (y 0).val; omega
    | ⟨1, _⟩ =>
      show 16 * (t.val % 37 / 8 * 8 + (y 1).val / 16) + (y 1).val % 16 = win0_4.index t (1 : Fin 2) * 128 + 1 * (y 1).val
      omega

/-- Every run of @main ends with the three arrays at the reference's functions of the arguments. -/
theorem vrun :
    θ_run defs (onTc (τ := τ) (main (F := Ideal))) ⟨m, fun _ => 0, ρ⟩ fun r => ∀ c : Dev nD,
      r.2.mem ((c : Thread nD τ).loc main_v0_0) = G2 (F := Ideal) (m ((c : Thread nD τ).loc main_arg0)) (m ((c : Thread nD τ).loc main_arg1))
      ∧ r.2.mem ((c : Thread nD τ).loc main_v0_1) = G3 (F := Ideal) (m ((c : Thread nD τ).loc main_arg0)) (m ((c : Thread nD τ).loc main_arg1))
      ∧ r.2.mem ((c : Thread nD τ).loc main_v0_2) = G4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨after, hL, hA⟩ := Pipeline.RDat.FramePost.exists_exact h.1 c
    exact ⟨(hA 2).trans (final2 m c after hL), (hA 3).trans (final3 m c after hL), (hA 4).trans (final4 m c after hL),
      Pipeline.RDat.FramePost.arr_in h.1 c 0 rfl, Pipeline.RDat.FramePost.arr_in h.1 c 1 rfl⟩)
    (vrun_main m ρ)

end Cert.KernelIdeal.Hand

end
-- ==== Proof.WeightFrame.lean ====
/-
  Hand-written. The frame of the printed weights' kernel: every run of its one region terminates, leaves its operand as
  launched and every semaphore counter at zero. What the body leaves in the three outputs is not named here. The row loop
  is taken by the generated invariant `Gen.loopInv_k0_t1`.
-/
module

public import proofs.«01_k».proof.Proof.Gen.Weight.Frame
public import proofs.«01_k».proof.Proof.Gen.Weight.Loops
public import Idealize.ShloMosaic.Lib.Pipeline.Frame

@[expose] public section

noncomputable section

namespace Cert.Weight.Hand

open Cert.Weight Cert.Weight.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run from any contents of its operands to some contents of each. -/
theorem kernelRun (c : Dev nD) (i : grid0.Coords)
    (arg2 : Memref sig .tc .vmem S512x512 .bf16) (harg2 : arg2.IsWhole) (arg3 : Memref sig .tc .vmem S512x512 .fp8e4m3) (harg3 : arg3.IsWhole)
    (arg4 : Memref sig .tc .vmem S512x512 .bf16) (harg4 : arg4.IsWhole) (arg5 : Memref sig .tc .vmem S512x128 .f32) (harg5 : arg5.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)) -∗ K ⟨⟩))
      ⊢ wp frame (wpE (defs₀ (F := F)) Variants.none c none) Set.univ
          (cc0_mx_weight i arg2 harg2 arg3 harg3 arg4 harg4 arg5 harg5) K := by
  simp only [cc0_mx_weight_eq_skeleton]; unfold cc0_mx_weight_skel
  unfold owns
  iintro ⟨⟨%d2, %f2, -, H2⟩, ⟨%d3, %f3, -, H3⟩, ⟨%d4, %f4, -, H4⟩, ⟨%d5, %f5, -, H5⟩, Hk⟩
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

/-- The proof data on core `c`: the arrays as launched, nothing said of what the body leaves in any staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) :
    (rdat (F := F) m c).BodyObligation (defs₀ (F := F)) Variants.none () Set.univ := fun t Y _ => by
  rw [bigSep_W0, bigSep_W0, defs₀_row]
  unfold bodyAt0
  rw [show (rdat (F := F) m c).Φ t.succ = (rdat (F := F) m c).Φ t.castSucc from rfl,
    show (rdat (F := F) m c).owesAt () t.succ = (rdat (F := F) m c).owesAt () t.castSucc from rfl]
  iintro ⟨HΦ, HO, H2, H3, H4, H5⟩
  iapply (kernelRun c _ _ _ _ _ _ _ _ _ _)
  isplitl [H2]; · iexists _; iexact H2
  isplitl [H3]; · iexists _; iexact H3
  isplitl [H4]; · iexists _; iexact H4
  isplitl [H5]; · iexists _; iexact H5
  iintro ⟨⟨%d2, H2⟩, ⟨%d3, H3⟩, ⟨%d4, H4⟩, ⟨%d5, H5⟩⟩
  isplitl [HΦ]; · iexact HΦ
  isplitl [HO]; · iexact HO
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  iexists d5; isplitr; · ipureintro; trivial
  iexact H5

set_option maxHeartbeats 800000 in
set_option backward.isDefEq.respectTransparency.types false in
/-- Every run of @main terminates with the operand as launched and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _)

/-- The frame claim. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => Pipeline.RDat.FramePost.arr_in h.1 c 0 rfl, h.2⟩) (run_main m ρ)

end Cert.Weight.Hand

end
-- ==== Proof.WeightIdealFrame.lean ====
/-
  Hand-written. The frame of the idealized weights' kernel: every run of its one region terminates, leaves its operand as
  launched and every semaphore counter at zero. What the body leaves in the three outputs is not named here. The row loop
  is taken by the generated invariant `Gen.loopInv_k0_t1`.
-/
module

public import proofs.«01_k».proof.Proof.Gen.WeightIdeal.Frame
public import proofs.«01_k».proof.Proof.Gen.WeightIdeal.Loops
public import Idealize.ShloMosaic.Lib.Pipeline.Frame

@[expose] public section

noncomputable section

namespace Cert.WeightIdeal.Hand

open Cert.WeightIdeal Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run from any contents of its operands to some contents of each. -/
theorem kernelRun (c : Dev nD) (i : grid0.Coords)
    (arg2 : Memref sig .tc .vmem S512x512 .bf16) (harg2 : arg2.IsWhole) (arg3 : Memref sig .tc .vmem S512x512 .fp8e4m3) (harg3 : arg3.IsWhole)
    (arg4 : Memref sig .tc .vmem S512x512 .bf16) (harg4 : arg4.IsWhole) (arg5 : Memref sig .tc .vmem S512x128 .f32) (harg5 : arg5.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)) -∗ K ⟨⟩))
      ⊢ wp frame (wpE (defs₀ (F := F)) Variants.none c none) Set.univ
          (cc0_mx_weight i arg2 harg2 arg3 harg3 arg4 harg4 arg5 harg5) K := by
  simp only [cc0_mx_weight_eq_skeleton]; unfold cc0_mx_weight_skel
  unfold owns
  iintro ⟨⟨%d2, %f2, -, H2⟩, ⟨%d3, %f3, -, H3⟩, ⟨%d4, %f4, -, H4⟩, ⟨%d5, %f5, -, H5⟩, Hk⟩
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

/-- The proof data on core `c`: the arrays as launched, nothing said of what the body leaves in any staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) :
    (rdat (F := F) m c).BodyObligation (defs₀ (F := F)) Variants.none () Set.univ := fun t Y _ => by
  rw [bigSep_W0, bigSep_W0, defs₀_row]
  unfold bodyAt0
  rw [show (rdat (F := F) m c).Φ t.succ = (rdat (F := F) m c).Φ t.castSucc from rfl,
    show (rdat (F := F) m c).owesAt () t.succ = (rdat (F := F) m c).owesAt () t.castSucc from rfl]
  iintro ⟨HΦ, HO, H2, H3, H4, H5⟩
  iapply (kernelRun c _ _ _ _ _ _ _ _ _ _)
  isplitl [H2]; · iexists _; iexact H2
  isplitl [H3]; · iexists _; iexact H3
  isplitl [H4]; · iexists _; iexact H4
  isplitl [H5]; · iexists _; iexact H5
  iintro ⟨⟨%d2, H2⟩, ⟨%d3, H3⟩, ⟨%d4, H4⟩, ⟨%d5, H5⟩⟩
  isplitl [HΦ]; · iexact HΦ
  isplitl [HO]; · iexact HO
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  iexists d5; isplitr; · ipureintro; trivial
  iexact H5

set_option maxHeartbeats 800000 in
set_option backward.isDefEq.respectTransparency.types false in
/-- Every run of @main terminates with the operand as launched and every counter at zero. -/
theorem run_main :
    θ_run defs (onTc (τ := τ) (main (F := F))) (s₀ m ρ)
      (fun r => Pipeline.RDat.FramePost cfg0 (fun c => rdat m c) (V m) r ∧ r.2.sem = fun _ => 0) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl)
    (hin := fun _ => .rfl) (hout := fun _ => .rfl) (Q' := _)

/-- The frame claim. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => Pipeline.RDat.FramePost.arr_in h.1 c 0 rfl, h.2⟩) (run_main m ρ)

end Cert.WeightIdeal.Hand

end
-- ==== Proof.WeightRefValue.lean ====
/-
  The weights' reference's run: its pallas_call has one grid point, each window's block is its whole array, so each result
  array ends at the stored payload applied to the argument array.
-/
module

public import proofs.«01_k».proof.Proof.Gen.WeightReferenceIdeal.Frame
public import Idealize.ShloMosaic.Lib.Pipeline.Value

@[expose] public section

noncomputable section

namespace Cert.WeightReferenceIdeal.Ref

open Cert.WeightReferenceIdeal Cert.WeightReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S3584x18944.Idx) : ((cfg0.win 0).blk t).view.emb j = j := by
  obtain ⟨e0, e1⟩ := idx_zero0 t
  funext a; apply Fin.ext
  match a with
  | ⟨0, _⟩ => show win0_0.index t (0 : Fin 2) * 3584 + 1 * (j 0).val = (j 0).val; omega
  | ⟨1, _⟩ => show win0_0.index t (1 : Fin 2) * 18944 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3584x18944.Idx) : ((cfg0.win 1).blk t).view.emb j = j := by
  obtain ⟨e0, e1⟩ := idx_zero1 t
  funext a; apply Fin.ext
  match a with
  | ⟨0, _⟩ => show win0_1.index t (0 : Fin 2) * 3584 + 1 * (j 0).val = (j 0).val; omega
  | ⟨1, _⟩ => show win0_1.index t (1 : Fin 2) * 18944 + 1 * (j 1).val = (j 1).val; omega

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3584x18944.Idx) : ((cfg0.win 2).blk t).view.emb j = j := by
  obtain ⟨e0, e1⟩ := idx_zero2 t
  funext a; apply Fin.ext
  match a with
  | ⟨0, _⟩ => show win0_2.index t (0 : Fin 2) * 3584 + 1 * (j 0).val = (j 0).val; omega
  | ⟨1, _⟩ => show win0_2.index t (1 : Fin 2) * 18944 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3584x592.Idx) : ((cfg0.win 3).blk t).view.emb j = j := by
  obtain ⟨e0, e1⟩ := idx_zero3 t
  funext a; apply Fin.ext
  match a with
  | ⟨0, _⟩ => show win0_3.index t (0 : Fin 2) * 3584 + 1 * (j 0).val = (j 0).val; omega
  | ⟨1, _⟩ => show win0_3.index t (1 : Fin 2) * 592 + 1 * (j 1).val = (j 1).val; omega

/-! ### Output window 1: the array after the run -/

/-- What the window's array ends holding: `out0_1` applied to the argument array in place of the input blocks (a value that the
    frame states apart, `kK_payN a…`, keeps its loads inside its own definition). -/
abbrev G1 (a0 : Vec F S3584x18944 .bf16) : Vec F S3584x18944 .fp8e4m3 :=
  k0_pay6 a0

/-- A load of the whole of a block reads the block, and the one store through the whole rectangle leaves its payload. -/
theorem out1_eq (a0 : Vec F S3584x18944 .bf16) : out0_1 (F := F) a0 = G1 a0 := by
  unfold out0_1
  rw [View.canon_unit_zero hz1, View.ld_unit_zero (S := S3584x18944) hz0 _ a0]

/-- Cutting the point's block out of `X` and reading `X` through the block's view give the same. -/
theorem cut1_eq (t : Fin cfg0.N) (X : Vec F S3584x18944 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument array as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S3584x18944.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument array as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument array in place of the input blocks (a value that the
    frame states apart, `kK_payN a…`, keeps its loads inside its own definition). -/
abbrev G2 (a0 : Vec F S3584x18944 .bf16) : Vec F S3584x18944 .bf16 :=
  k0_pay5 a0

/-- A load of the whole of a block reads the block, and the one store through the whole rectangle leaves its payload. -/
theorem out2_eq (a0 : Vec F S3584x18944 .bf16) : out0_2 (F := F) a0 = G2 a0 := by
  unfold out0_2
  rw [View.canon_unit_zero hz2, View.ld_unit_zero (S := S3584x18944) hz0 _ a0]

/-- Cutting the point's block out of `X` and reading `X` through the block's view give the same. -/
theorem cut2_eq (t : Fin cfg0.N) (X : Vec F S3584x18944 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument array as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S3584x18944.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument array as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument array in place of the input blocks (a value that the
    frame states apart, `kK_payN a…`, keeps its loads inside its own definition). -/
abbrev G3 (a0 : Vec F S3584x18944 .bf16) : Vec F S3584x592 .f32 :=
  k0_pay7 a0

/-- A load of the whole of a block reads the block, and the one store through the whole rectangle leaves its payload. -/
theorem out3_eq (a0 : Vec F S3584x18944 .bf16) : out0_3 (F := F) a0 = G3 a0 := by
  unfold out0_3
  rw [View.canon_unit_zero hz3, View.ld_unit_zero (S := S3584x18944) hz0 _ a0]

/-- Cutting the point's block out of `X` and reading `X` through the block's view give the same. -/
theorem cut3_eq (t : Fin cfg0.N) (X : Vec F S3584x592 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument array as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S3584x592.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument array as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the argument, the argument unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨((h c).1 1).trans (final1 m c),
      ((h c).1 2).trans (final2 m c),
      ((h c).1 3).trans (final3 m c),
      ((h c).1 0).trans (((dats m 0 c).arrAt_in 0 rfl _).trans ((A_eq m c 0).trans (V_main_arg0 m c)))⟩)
    (run_main m ρ)

end Cert.WeightReferenceIdeal.Ref

end
-- ==== Proof.WeightTrip.lean ====
/-
  The row loop of the weights' kernel, over the extended reals: each trip's stores are the codes, the dequantised values
  and the scales of thirty-two rows of the block, and the sixteen trips fill the three blocks.
-/
module

public import proofs.«01_k».proof.Proof.Tile
public import proofs.«01_k».proof.Proof.Gen.WeightIdeal.Frame
public import proofs.«01_k».proof.Proof.Gen.WeightIdeal.Loops

@[expose] public section

noncomputable section

namespace Cert.WeightIdeal.Hand

open Cert.WeightIdeal Cert.WeightIdeal.Gen Cert.Scale
open Cert.KernelIdeal.Hand (V BR bblk bscale codeAt deqAt scaleP codesV deqV scV scLane col colOf lo hi lane trow tcol trip_code trip_deq trip_sc readAt_unit fin2 fin4 fin2_all fin4_all
  read_codes read_deq read_scales upto_step upto_step_some sel_dec)
open Idealize.ShloMosaic Idealize.ShloMosaic.TcCoe Idealize.ShloMosaic.Tactic

/-! Where a trip's rectangles lie. -/

theorem off_in : ∀ (k : Fin k0_t1_loop.trips) (h : Fin 2),
    k0_off1 k (BitVec.ofNat 32 (16 * h.val)) = ![32 * k.val + 16 * h.val, 0] ∧ k0_off2 k (BitVec.ofNat 32 (16 * h.val)) = ![32 * k.val + 16 * h.val, 128]
    ∧ k0_off3 k (BitVec.ofNat 32 (16 * h.val)) = ![32 * k.val + 16 * h.val, 256] ∧ k0_off4 k (BitVec.ofNat 32 (16 * h.val)) = ![32 * k.val + 16 * h.val, 384]
    ∧ k0_off5 k (BitVec.ofNat 32 (16 * h.val)) = ![32 * k.val + 16 * h.val, 0] := by decide
theorem off_out : ∀ (k : Fin k0_t1_loop.trips),
    k0_off6 k = ![32 * k.val, 0] ∧ k0_off7 k = ![32 * k.val, 128] ∧ k0_off8 k = ![32 * k.val, 256] ∧ k0_off9 k = ![32 * k.val, 384] := by decide

section

variable (arg2 : Memref sig .tc .vmem S512x512 .bf16) (X : BufTy.Contents (Elt Ideal) arg2.view.ty) (k : Fin k0_t1_loop.trips)

theorem trip_le : 32 * k.val + 32 ≤ 512 := by
  have h : k.val < 16 := k.isLt
  omega

/-! The trip's values are the tile's vector functions of its four columns. -/

theorem r_21_eq : trip_k0_t1.sl.r_21 arg2 X k = scaleP 0 (trip_k0_t1.sl.r arg2 X k) (trip_k0_t1.sl.r_1 arg2 X k) (trip_k0_t1.sl.r_2 arg2 X k) (trip_k0_t1.sl.r_3 arg2 X k) := rfl
theorem r_17_eq : trip_k0_t1.sl.r_17 arg2 X k = scaleP 1 (trip_k0_t1.sl.r arg2 X k) (trip_k0_t1.sl.r_1 arg2 X k) (trip_k0_t1.sl.r_2 arg2 X k) (trip_k0_t1.sl.r_3 arg2 X k) := rfl
theorem r_25_eq : trip_k0_t1.sl.r_25 arg2 X k = codesV (trip_k0_t1.sl.r arg2 X k) (trip_k0_t1.sl.r_21 arg2 X k) (trip_k0_t1.sl.r_17 arg2 X k) (col 0#32) := rfl
theorem r_30_eq : trip_k0_t1.sl.r_30 arg2 X k = codesV (trip_k0_t1.sl.r_1 arg2 X k) (trip_k0_t1.sl.r_21 arg2 X k) (trip_k0_t1.sl.r_17 arg2 X k) (col 16#32) := rfl
theorem r_35_eq : trip_k0_t1.sl.r_35 arg2 X k = codesV (trip_k0_t1.sl.r_2 arg2 X k) (trip_k0_t1.sl.r_21 arg2 X k) (trip_k0_t1.sl.r_17 arg2 X k) (col 8#32) := rfl
theorem r_39_eq : trip_k0_t1.sl.r_39 arg2 X k = codesV (trip_k0_t1.sl.r_3 arg2 X k) (trip_k0_t1.sl.r_21 arg2 X k) (trip_k0_t1.sl.r_17 arg2 X k) (col 24#32) := rfl
theorem r_26_eq : trip_k0_t1.sl.r_26 arg2 X k = deqV (trip_k0_t1.sl.r arg2 X k) (trip_k0_t1.sl.r_21 arg2 X k) (trip_k0_t1.sl.r_17 arg2 X k) (col 0#32) := rfl
theorem r_31_eq : trip_k0_t1.sl.r_31 arg2 X k = deqV (trip_k0_t1.sl.r_1 arg2 X k) (trip_k0_t1.sl.r_21 arg2 X k) (trip_k0_t1.sl.r_17 arg2 X k) (col 16#32) := rfl
theorem r_36_eq : trip_k0_t1.sl.r_36 arg2 X k = deqV (trip_k0_t1.sl.r_2 arg2 X k) (trip_k0_t1.sl.r_21 arg2 X k) (trip_k0_t1.sl.r_17 arg2 X k) (col 8#32) := rfl
theorem r_41_eq : trip_k0_t1.sl.r_41 arg2 X k = deqV (trip_k0_t1.sl.r_3 arg2 X k) (trip_k0_t1.sl.r_21 arg2 X k) (trip_k0_t1.sl.r_17 arg2 X k) (col 24#32) := rfl
theorem r_68_eq : trip_k0_t1.sl.r_68 arg2 X k = scaleP 0 (trip_k0_t1.sl.r_43 arg2 X k) (trip_k0_t1.sl.r_44 arg2 X k) (trip_k0_t1.sl.r_45 arg2 X k) (trip_k0_t1.sl.r_46 arg2 X k) := rfl
theorem r_64_eq : trip_k0_t1.sl.r_64 arg2 X k = scaleP 1 (trip_k0_t1.sl.r_43 arg2 X k) (trip_k0_t1.sl.r_44 arg2 X k) (trip_k0_t1.sl.r_45 arg2 X k) (trip_k0_t1.sl.r_46 arg2 X k) := rfl
theorem r_69_eq : trip_k0_t1.sl.r_69 arg2 X k = codesV (trip_k0_t1.sl.r_43 arg2 X k) (trip_k0_t1.sl.r_68 arg2 X k) (trip_k0_t1.sl.r_64 arg2 X k) (col 0#32) := rfl
theorem r_72_eq : trip_k0_t1.sl.r_72 arg2 X k = codesV (trip_k0_t1.sl.r_44 arg2 X k) (trip_k0_t1.sl.r_68 arg2 X k) (trip_k0_t1.sl.r_64 arg2 X k) (col 16#32) := rfl
theorem r_76_eq : trip_k0_t1.sl.r_76 arg2 X k = codesV (trip_k0_t1.sl.r_45 arg2 X k) (trip_k0_t1.sl.r_68 arg2 X k) (trip_k0_t1.sl.r_64 arg2 X k) (col 8#32) := rfl
theorem r_82_eq : trip_k0_t1.sl.r_82 arg2 X k = codesV (trip_k0_t1.sl.r_46 arg2 X k) (trip_k0_t1.sl.r_68 arg2 X k) (trip_k0_t1.sl.r_64 arg2 X k) (col 24#32) := rfl
theorem r_70_eq : trip_k0_t1.sl.r_70 arg2 X k = deqV (trip_k0_t1.sl.r_43 arg2 X k) (trip_k0_t1.sl.r_68 arg2 X k) (trip_k0_t1.sl.r_64 arg2 X k) (col 0#32) := rfl
theorem r_73_eq : trip_k0_t1.sl.r_73 arg2 X k = deqV (trip_k0_t1.sl.r_44 arg2 X k) (trip_k0_t1.sl.r_68 arg2 X k) (trip_k0_t1.sl.r_64 arg2 X k) (col 16#32) := rfl
theorem r_77_eq : trip_k0_t1.sl.r_77 arg2 X k = deqV (trip_k0_t1.sl.r_45 arg2 X k) (trip_k0_t1.sl.r_68 arg2 X k) (trip_k0_t1.sl.r_64 arg2 X k) (col 8#32) := rfl
theorem r_83_eq : trip_k0_t1.sl.r_83 arg2 X k = deqV (trip_k0_t1.sl.r_46 arg2 X k) (trip_k0_t1.sl.r_68 arg2 X k) (trip_k0_t1.sl.r_64 arg2 X k) (col 24#32) := rfl
theorem r_42_eq : trip_k0_t1.sl.r_42 arg2 X k = scV (trip_k0_t1.sl.r_21 arg2 X k) (trip_k0_t1.sl.r_17 arg2 X k) scLane := rfl

/-- The four columns of the first sixteen rows of trip `k`, and of the other sixteen. -/
def xs (h : Fin 2) : Fin 4 → V := match h with
  | 0 => ![trip_k0_t1.sl.r arg2 X k, trip_k0_t1.sl.r_1 arg2 X k, trip_k0_t1.sl.r_2 arg2 X k, trip_k0_t1.sl.r_3 arg2 X k]
  | 1 => ![trip_k0_t1.sl.r_43 arg2 X k, trip_k0_t1.sl.r_44 arg2 X k, trip_k0_t1.sl.r_45 arg2 X k, trip_k0_t1.sl.r_46 arg2 X k]

theorem xs_apply (h : Fin 2) (j : Fin 4) (r : Fin 16) (l : Fin 128) :
    xs arg2 X k h j (ix2 r l) = arg2.view.read (Elt Ideal) X (ix2 (trow (trip_le k) h r) (tcol j l)) := by
  have o0 := off_in k 0
  have o1 := off_in k 1
  rcases fin2 h with rfl | rfl <;> rcases fin4 j with rfl | rfl | rfl | rfl <;> refine readAt_unit arg2 X _ _ _ _ _ ?_ <;>
    refine Fin.forall_fin_two.mpr ⟨?_, ?_⟩
  · exact congrArg (· + r.val) (congrFun o0.1 0).symm
  · exact congrArg (· + l.val) (congrFun o0.1 1).symm
  · exact congrArg (· + r.val) (congrFun o0.2.1 0).symm
  · exact congrArg (· + l.val) (congrFun o0.2.1 1).symm
  · exact congrArg (· + r.val) (congrFun o0.2.2.1 0).symm
  · exact congrArg (· + l.val) (congrFun o0.2.2.1 1).symm
  · exact congrArg (· + r.val) (congrFun o0.2.2.2.1 0).symm
  · exact congrArg (· + l.val) (congrFun o0.2.2.2.1 1).symm
  · exact congrArg (· + r.val) (congrFun o1.1 0).symm
  · exact congrArg (· + l.val) (congrFun o1.1 1).symm
  · exact congrArg (· + r.val) (congrFun o1.2.1 0).symm
  · exact congrArg (· + l.val) (congrFun o1.2.1 1).symm
  · exact congrArg (· + r.val) (congrFun o1.2.2.1 0).symm
  · exact congrArg (· + l.val) (congrFun o1.2.2.1 1).symm
  · exact congrArg (· + r.val) (congrFun o1.2.2.2.1 0).symm
  · exact congrArg (· + l.val) (congrFun o1.2.2.2.1 1).symm

/-! The trip's values, of its four columns. -/

theorem c_25 : trip_k0_t1.sl.r_25 arg2 X k = codesV (xs arg2 X k 0 0) (lo (xs arg2 X k 0)) (hi (xs arg2 X k 0)) (col 0#32) := by
  rw [r_25_eq, r_21_eq, r_17_eq]; rfl
theorem c_30 : trip_k0_t1.sl.r_30 arg2 X k = codesV (xs arg2 X k 0 1) (lo (xs arg2 X k 0)) (hi (xs arg2 X k 0)) (col 16#32) := by
  rw [r_30_eq, r_21_eq, r_17_eq]; rfl
theorem c_35 : trip_k0_t1.sl.r_35 arg2 X k = codesV (xs arg2 X k 0 2) (lo (xs arg2 X k 0)) (hi (xs arg2 X k 0)) (col 8#32) := by
  rw [r_35_eq, r_21_eq, r_17_eq]; rfl
theorem c_39 : trip_k0_t1.sl.r_39 arg2 X k = codesV (xs arg2 X k 0 3) (lo (xs arg2 X k 0)) (hi (xs arg2 X k 0)) (col 24#32) := by
  rw [r_39_eq, r_21_eq, r_17_eq]; rfl
theorem d_26 : trip_k0_t1.sl.r_26 arg2 X k = deqV (xs arg2 X k 0 0) (lo (xs arg2 X k 0)) (hi (xs arg2 X k 0)) (col 0#32) := by
  rw [r_26_eq, r_21_eq, r_17_eq]; rfl
theorem d_31 : trip_k0_t1.sl.r_31 arg2 X k = deqV (xs arg2 X k 0 1) (lo (xs arg2 X k 0)) (hi (xs arg2 X k 0)) (col 16#32) := by
  rw [r_31_eq, r_21_eq, r_17_eq]; rfl
theorem d_36 : trip_k0_t1.sl.r_36 arg2 X k = deqV (xs arg2 X k 0 2) (lo (xs arg2 X k 0)) (hi (xs arg2 X k 0)) (col 8#32) := by
  rw [r_36_eq, r_21_eq, r_17_eq]; rfl
theorem d_41 : trip_k0_t1.sl.r_41 arg2 X k = deqV (xs arg2 X k 0 3) (lo (xs arg2 X k 0)) (hi (xs arg2 X k 0)) (col 24#32) := by
  rw [r_41_eq, r_21_eq, r_17_eq]; rfl
theorem c_69 : trip_k0_t1.sl.r_69 arg2 X k = codesV (xs arg2 X k 1 0) (lo (xs arg2 X k 1)) (hi (xs arg2 X k 1)) (col 0#32) := by
  rw [r_69_eq, r_68_eq, r_64_eq]; rfl
theorem c_72 : trip_k0_t1.sl.r_72 arg2 X k = codesV (xs arg2 X k 1 1) (lo (xs arg2 X k 1)) (hi (xs arg2 X k 1)) (col 16#32) := by
  rw [r_72_eq, r_68_eq, r_64_eq]; rfl
theorem c_76 : trip_k0_t1.sl.r_76 arg2 X k = codesV (xs arg2 X k 1 2) (lo (xs arg2 X k 1)) (hi (xs arg2 X k 1)) (col 8#32) := by
  rw [r_76_eq, r_68_eq, r_64_eq]; rfl
theorem c_82 : trip_k0_t1.sl.r_82 arg2 X k = codesV (xs arg2 X k 1 3) (lo (xs arg2 X k 1)) (hi (xs arg2 X k 1)) (col 24#32) := by
  rw [r_82_eq, r_68_eq, r_64_eq]; rfl
theorem d_70 : trip_k0_t1.sl.r_70 arg2 X k = deqV (xs arg2 X k 1 0) (lo (xs arg2 X k 1)) (hi (xs arg2 X k 1)) (col 0#32) := by
  rw [r_70_eq, r_68_eq, r_64_eq]; rfl
theorem d_73 : trip_k0_t1.sl.r_73 arg2 X k = deqV (xs arg2 X k 1 1) (lo (xs arg2 X k 1)) (hi (xs arg2 X k 1)) (col 16#32) := by
  rw [r_73_eq, r_68_eq, r_64_eq]; rfl
theorem d_77 : trip_k0_t1.sl.r_77 arg2 X k = deqV (xs arg2 X k 1 2) (lo (xs arg2 X k 1)) (hi (xs arg2 X k 1)) (col 8#32) := by
  rw [r_77_eq, r_68_eq, r_64_eq]; rfl
theorem d_83 : trip_k0_t1.sl.r_83 arg2 X k = deqV (xs arg2 X k 1 3) (lo (xs arg2 X k 1)) (hi (xs arg2 X k 1)) (col 24#32) := by
  rw [r_83_eq, r_68_eq, r_64_eq]; rfl
theorem s0 : trip_k0_t1.sl.r_42 arg2 X k = scV (lo (xs arg2 X k 0)) (hi (xs arg2 X k 0)) scLane := by
  rw [r_42_eq, r_21_eq, r_17_eq]; rfl

end

/-! The payloads at an element. -/

theorem cat_115 (a b : FVec Ideal S16x128 .fp8e4m3) (r : Fin 32) (l : Fin 128) :
    k0_pay115 a b (ix2 r l) = if h : r.val < 16 then a (ix2 ⟨r.val, h⟩ l) else b (ix2 ⟨r.val - 16, by omega⟩ l) := by
  pointwise [k0_pay115]
theorem cat_116 (a b : FVec Ideal S16x128 .fp8e4m3) (r : Fin 32) (l : Fin 128) :
    k0_pay116 a b (ix2 r l) = if h : r.val < 16 then a (ix2 ⟨r.val, h⟩ l) else b (ix2 ⟨r.val - 16, by omega⟩ l) := by
  pointwise [k0_pay116]
theorem cat_117 (a b : FVec Ideal S16x128 .fp8e4m3) (r : Fin 32) (l : Fin 128) :
    k0_pay117 a b (ix2 r l) = if h : r.val < 16 then a (ix2 ⟨r.val, h⟩ l) else b (ix2 ⟨r.val - 16, by omega⟩ l) := by
  pointwise [k0_pay117]
theorem cat_2 (a b : FVec Ideal S16x128 .fp8e4m3) (r : Fin 32) (l : Fin 128) :
    k0_pay2 a b (ix2 r l) = if h : r.val < 16 then a (ix2 ⟨r.val, h⟩ l) else b (ix2 ⟨r.val - 16, by omega⟩ l) := by
  pointwise [k0_pay2]

theorem sel_54 (v39 : IVec S16x128 1) (a : V) (old : FVec Ideal S16x128 .f32) (Q : Fin 128 → Prop) [DecidablePred Q]
    (hv : ∀ r l, v39 (ix2 r l) = BitVec.ofBool (decide (Q l))) (r : Fin 16) (l : Fin 128) :
    k0_pay54 v39 a old (ix2 r l) = if Q l then (a (ix2 r l) : EReal) else old (ix2 r l) := by
  pointwise [k0_pay54]
  rw [hv, sel_dec]

section

variable (𝒱 : Variants) (c : Dev nD) (bd : Option 𝒱.V) (i : grid0.Coords) (arg2 : Memref sig .tc .vmem S512x512 .bf16) (harg2 : arg2.IsWhole) (arg3 : Memref sig .tc .vmem S512x512 .fp8e4m3) (harg3 : arg3.IsWhole) (arg4 : Memref sig .tc .vmem S512x512 .bf16) (harg4 : arg4.IsWhole) (arg5 : Memref sig .tc .vmem S512x128 .f32) (harg5 : arg5.IsWhole) (X : BufTy.Contents (Elt Ideal) arg2.view.ty) (k : Fin k0_t1_loop.trips) (f3 : BufTy.Contents (Elt Ideal) arg3.view.ty) (f4 : BufTy.Contents (Elt Ideal) arg4.view.ty) (f5 : BufTy.Contents (Elt Ideal) arg5.view.ty)

/-- One trip's stores. -/
abbrev tL := tripL_k0_t1 (F := Ideal) 𝒱 c bd i arg2 harg2 arg3 harg3 arg4 harg4 arg5 harg5 X k f3 f4 f5

theorem t3 (y : S512x512.Idx) : arg3.view.read (Elt Ideal) (arg3.view.writes (Elt Ideal) f3 (tL 𝒱 c bd i arg2 harg2 arg3 harg3 arg4 harg4 arg5 harg5 X k f3 f4 f5).1) y
    = if (y 0).val / 32 = k.val then codeAt (arg2.view.read (Elt Ideal) X) (y 0) (y 1) else arg3.view.read (Elt Ideal) f3 y := by
  have o := off_out k
  unfold tL tripL_k0_t1 trip_k0_t1; dsimp only
  exact read_codes (trip_le k) _ (xs arg2 X k) (xs_apply arg2 X k) arg3.view f3 ![k0_off6 k, k0_off7 k, k0_off8 k, k0_off9 k]
    (fin4_all o.1 o.2.1 o.2.2.1 o.2.2.2) (fin4_all (k0_off6_inb k) (k0_off7_inb k) (k0_off8_inb k) (k0_off9_inb k))
    ![trip_k0_t1.sl.r_25 arg2 X k, trip_k0_t1.sl.r_30 arg2 X k, trip_k0_t1.sl.r_35 arg2 X k, trip_k0_t1.sl.r_39 arg2 X k]
    ![trip_k0_t1.sl.r_69 arg2 X k, trip_k0_t1.sl.r_72 arg2 X k, trip_k0_t1.sl.r_76 arg2 X k, trip_k0_t1.sl.r_82 arg2 X k]
    ![k0_pay115 _ _, k0_pay116 _ _, k0_pay117 _ _, k0_pay2 _ _] (fin4_all (cat_115 _ _) (cat_116 _ _) (cat_117 _ _) (cat_2 _ _))
    (fin4_all (fun r l => congrFun (c_25 arg2 X k) _) (fun r l => congrFun (c_30 arg2 X k) _) (fun r l => congrFun (c_35 arg2 X k) _) (fun r l => congrFun (c_39 arg2 X k) _))
    (fin4_all (fun r l => congrFun (c_69 arg2 X k) _) (fun r l => congrFun (c_72 arg2 X k) _) (fun r l => congrFun (c_76 arg2 X k) _) (fun r l => congrFun (c_82 arg2 X k) _)) y

theorem t4 (y : S512x512.Idx) : arg4.view.read (Elt Ideal) (arg4.view.writes (Elt Ideal) f4 (tL 𝒱 c bd i arg2 harg2 arg3 harg3 arg4 harg4 arg5 harg5 X k f3 f4 f5).2.1) y
    = if (y 0).val / 32 = k.val then deqAt (arg2.view.read (Elt Ideal) X) (y 0) (y 1) else arg4.view.read (Elt Ideal) f4 y := by
  have o0 := off_in k 0
  have o1 := off_in k 1
  unfold tL tripL_k0_t1 trip_k0_t1; dsimp only
  exact read_deq (trip_le k) _ (xs arg2 X k) (xs_apply arg2 X k) arg4.view f4
    ![![k0_off1 k 0#32, k0_off2 k 0#32, k0_off3 k 0#32, k0_off4 k 0#32], ![k0_off1 k 16#32, k0_off2 k 16#32, k0_off3 k 16#32, k0_off4 k 16#32]]
    (fin2_all (fin4_all o0.1 o0.2.1 o0.2.2.1 o0.2.2.2.1) (fin4_all o1.1 o1.2.1 o1.2.2.1 o1.2.2.2.1))
    (fin2_all (fin4_all (k0_off1_inb k 0) (k0_off2_inb k 0) (k0_off3_inb k 0) (k0_off4_inb k 0)) (fin4_all (k0_off1_inb k 1) (k0_off2_inb k 1) (k0_off3_inb k 1) (k0_off4_inb k 1)))
    ![![trip_k0_t1.sl.r_26 arg2 X k, trip_k0_t1.sl.r_31 arg2 X k, trip_k0_t1.sl.r_36 arg2 X k, trip_k0_t1.sl.r_41 arg2 X k],
      ![trip_k0_t1.sl.r_70 arg2 X k, trip_k0_t1.sl.r_73 arg2 X k, trip_k0_t1.sl.r_77 arg2 X k, trip_k0_t1.sl.r_83 arg2 X k]]
    (fin2_all
      (fin4_all (fun r l => congrFun (d_26 arg2 X k) _) (fun r l => congrFun (d_31 arg2 X k) _) (fun r l => congrFun (d_36 arg2 X k) _) (fun r l => congrFun (d_41 arg2 X k) _))
      (fin4_all (fun r l => congrFun (d_70 arg2 X k) _) (fun r l => congrFun (d_73 arg2 X k) _) (fun r l => congrFun (d_77 arg2 X k) _) (fun r l => congrFun (d_83 arg2 X k) _))) y

theorem t5 (Q : Fin 128 → Prop) [DecidablePred Q] (hv : ∀ r l, k0_pay1 i (ix2 r l) = BitVec.ofBool (decide (Q l))) (y : S512x128.Idx) :
    arg5.view.read (Elt Ideal) (arg5.view.writes (Elt Ideal) f5 (tL 𝒱 c bd i arg2 harg2 arg3 harg3 arg4 harg4 arg5 harg5 X k f3 f4 f5).2.2) y
    = if (y 0).val / 32 = k.val then (if Q (lane y) then bscale (arg2.view.read (Elt Ideal) X) (y 0) ⟨(y 1).val % 16, by omega⟩ else arg5.view.read (Elt Ideal) f5 y)
      else arg5.view.read (Elt Ideal) f5 y := by
  unfold tL tripL_k0_t1 trip_k0_t1; dsimp only
  refine read_scales (trip_le k) _ (xs arg2 X k) (xs_apply arg2 X k) arg5 f5 Q ![k0_off5 k 0#32, k0_off5 k 16#32]
    (fin2_all (off_in k 0).2.2.2.2 (off_in k 1).2.2.2.2) (fin2_all (k0_off5_inb k 0) (k0_off5_inb k 1)) ![_, _] ?_ y
  refine fin2_all (fun r l => ?_) (fun r l => ?_)
  · dsimp only [Matrix.cons_val_zero]
    rw [s0]
    exact sel_54 (k0_pay1 i) (scV (lo (xs arg2 X k 0)) (hi (xs arg2 X k 0)) scLane) _ Q hv r l
  · dsimp only [Matrix.cons_val_one, Matrix.cons_val_zero]
    unfold trip_k0_t1.sl.r_84
    rw [r_64_eq, r_68_eq]
    exact sel_54 (k0_pay1 i) (scV (lo (xs arg2 X k 1)) (hi (xs arg2 X k 1)) scLane) _ Q hv r l

/-! The whole loop. -/

/-- The stores of the trips before `n`. -/
abbrev lL (n : ℕ) := pb_k0_t1 (F := Ideal) 𝒱 c bd i arg2 harg2 arg3 harg3 arg4 harg4 arg5 harg5 X f3 f4 f5 n

theorem loop_upto (Q : Fin 128 → Prop) [DecidablePred Q] (hv : ∀ r l, k0_pay1 i (ix2 r l) = BitVec.ofBool (decide (Q l))) (n : ℕ) (hn : n ≤ 16) :
    (∀ y : S512x512.Idx, arg3.view.read (Elt Ideal) (arg3.view.writes (Elt Ideal) f3 (lL 𝒱 c bd i arg2 harg2 arg3 harg3 arg4 harg4 arg5 harg5 X f3 f4 f5 n).1) y
      = if (y 0).val / 32 < n then codeAt (arg2.view.read (Elt Ideal) X) (y 0) (y 1) else arg3.view.read (Elt Ideal) f3 y)
    ∧ (∀ y : S512x512.Idx, arg4.view.read (Elt Ideal) (arg4.view.writes (Elt Ideal) f4 (lL 𝒱 c bd i arg2 harg2 arg3 harg3 arg4 harg4 arg5 harg5 X f3 f4 f5 n).2.1) y
      = if (y 0).val / 32 < n then deqAt (arg2.view.read (Elt Ideal) X) (y 0) (y 1) else arg4.view.read (Elt Ideal) f4 y)
    ∧ (∀ y : S512x128.Idx, arg5.view.read (Elt Ideal) (arg5.view.writes (Elt Ideal) f5 (lL 𝒱 c bd i arg2 harg2 arg3 harg3 arg4 harg4 arg5 harg5 X f3 f4 f5 n).2.2) y
      = if (y 0).val / 32 < n then (if Q (lane y) then bscale (arg2.view.read (Elt Ideal) X) (y 0) ⟨(y 1).val % 16, by omega⟩ else arg5.view.read (Elt Ideal) f5 y)
        else arg5.view.read (Elt Ideal) f5 y) := by
  induction n with
  | zero => exact ⟨fun y => rfl, fun y => rfl, fun y => rfl⟩
  | succ n ih =>
    obtain ⟨i3, i4, i5⟩ := ih (by omega)
    have hs := pb_k0_t1_succ (F := Ideal) 𝒱 c bd i arg2 harg2 arg3 harg3 arg4 harg4 arg5 harg5 X f3 f4 f5 (⟨n, by show n < 16; omega⟩ : Fin k0_t1_loop.trips)
    unfold lL
    rw [show n + 1 = (⟨n, by show n < 16; omega⟩ : Fin k0_t1_loop.trips).val + 1 from rfl, hs]
    refine ⟨fun y => ?_, fun y => ?_, fun y => ?_⟩
    · rw [View.writes_append, t3, i3]
      exact upto_step _ _ _ _
    · rw [View.writes_append, t4, i4]
      exact upto_step _ _ _ _
    · rw [View.writes_append, t5 (Q := Q) (hv := hv), i5]
      exact upto_step_some _ _ _ _ _

end

end Cert.WeightIdeal.Hand

end
-- ==== Proof.WeightRun.lean ====
/-
  The weights' kernel's run, over the extended reals, with what every point leaves: the codes, the dequantised values and
  the sixteen lanes of scales of its block.
-/
module

public import proofs.«01_k».proof.Proof.WeightTrip
public import proofs.«01_k».proof.Proof.WeightIdealFrame

@[expose] public section

noncomputable section

namespace Cert.WeightIdeal.Hand

open Cert.WeightIdeal Cert.WeightIdeal.Gen Cert.Scale
open Cert.KernelIdeal.Hand (BR bblk bscale codeAt deqAt lane)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

theorem mask_apply (i : grid0.Coords) (r : Fin 16) (l : Fin 128) :
    k0_pay1 i (ix2 r l) = BitVec.ofBool (decide (l.val / 16 = (i 1).val % 8)) := by
  pointwise [k0_pay1]
  generalize i 1 = b
  clear i r
  revert l b
  decide +kernel

/-- The codes of a block. -/
abbrev codesB (x : BR 512) : FVec Ideal S512x512 .fp8e4m3 := fun y => codeAt x (y 0) (y 1)
/-- The dequantised values of a block. -/
abbrev deqB (x : BR 512) : BR 512 := fun y => deqAt x (y 0) (y 1)
/-- The scales' block once column block `b` has stored its sixteen lanes over `old`. -/
abbrev scalesB (b : ℕ) (x : BR 512) (old : FVec Ideal S512x128 .f32) : FVec Ideal S512x128 .f32 :=
  fun y => if (lane y).val / 16 = b % 8 then bscale x (y 0) ⟨(y 1).val % 16, by omega⟩ else old y

set_option maxHeartbeats 4000000 in
/-- The body run with the values it leaves. -/
theorem kernelRunV (c : Dev nD) (i : grid0.Coords)
    (arg2 : Memref sig .tc .vmem S512x512 .bf16) (harg2 : arg2.IsWhole) (arg3 : Memref sig .tc .vmem S512x512 .fp8e4m3) (harg3 : arg3.IsWhole)
    (arg4 : Memref sig .tc .vmem S512x512 .bf16) (harg4 : arg4.IsWhole) (arg5 : Memref sig .tc .vmem S512x128 .f32) (harg5 : arg5.IsWhole)
    (K : PUnit → sProp 𝕄) (X : BR 512) (D5 : FVec Ideal S512x128 .f32) :
    iprop(owns (c : Thread nD τ) arg2 fullShare X ∗ (∃ d, owns (c : Thread nD τ) arg3 fullShare d)
        ∗ (∃ d, owns (c : Thread nD τ) arg4 fullShare d) ∗ owns (c : Thread nD τ) arg5 fullShare D5
        ∗ (iprop(owns (c : Thread nD τ) arg2 fullShare X ∗ owns (c : Thread nD τ) arg3 fullShare (codesB X)
        ∗ owns (c : Thread nD τ) arg4 fullShare (deqB X) ∗ owns (c : Thread nD τ) arg5 fullShare (scalesB (i 1).val X D5)) -∗ K ⟨⟩))
      ⊢ wp frame (wpE (defs₀ (F := Ideal)) Variants.none c none) Set.univ
          (cc0_mx_weight i arg2 harg2 arg3 harg3 arg4 harg4 arg5 harg5) K := by
  simp only [cc0_mx_weight_eq_skeleton]; unfold cc0_mx_weight_skel
  unfold owns
  iintro ⟨⟨%f2, %e2, H2⟩, ⟨%d3, %f3, -, H3⟩, ⟨%d4, %f4, -, H4⟩, ⟨%f5, %e5, H5⟩, Hk⟩
  subst e2 e5
  have hL := loop_upto Variants.none c none i arg2 harg2 arg3 harg3 arg4 harg4 arg5 harg5 f2 f3 f4 f5 (fun l => l.val / 16 = (i 1).val % 8) (mask_apply i) 16 le_rfl
  have h3 : arg3.view.read (Elt Ideal) (arg3.view.writes (Elt Ideal) f3 (lL Variants.none c none i arg2 harg2 arg3 harg3 arg4 harg4 arg5 harg5 f2 f3 f4 f5 16).1) = codesB (arg2.view.read (Elt Ideal) f2) :=
    funext fun y => (hL.1 y).trans (if_pos (by have h : (y 0).val < 512 := (y 0).isLt; omega))
  have h4 : arg4.view.read (Elt Ideal) (arg4.view.writes (Elt Ideal) f4 (lL Variants.none c none i arg2 harg2 arg3 harg3 arg4 harg4 arg5 harg5 f2 f3 f4 f5 16).2.1) = deqB (arg2.view.read (Elt Ideal) f2) :=
    funext fun y => (hL.2.1 y).trans (if_pos (by have h : (y 0).val < 512 := (y 0).isLt; omega))
  have h5 : arg5.view.read (Elt Ideal) (arg5.view.writes (Elt Ideal) f5 (lL Variants.none c none i arg2 harg2 arg3 harg3 arg4 harg4 arg5 harg5 f2 f3 f4 f5 16).2.2) = scalesB (i 1).val (arg2.view.read (Elt Ideal) f2) (arg5.view.read (Elt Ideal) f5) :=
    funext fun y => (hL.2.2 y).trans (if_pos (by have h : (y 0).val < 512 := (y 0).isLt; omega))
  sl_exec
  sl_step
  iapply Hk
  isplitl [H2]
  · iexists _; isplitr; swap; · iexact H2
    ipureintro; rfl
  isplitl [H3]
  · iexists _; isplitr; swap; · iexact H3
    ipureintro; exact h3
  isplitl [H4]
  · iexists _; isplitr; swap; · iexact H4
    ipureintro; exact h4
  iexists _; isplitr; swap; · iexact H5
  ipureintro; exact h5

variable (m : (ℓ : Loc nD τ sig) → Buf (Elt Ideal) ℓ) (ρ : Dev nD → PrngReg)

abbrev WA := FVec Ideal S3584x18944 .bf16

/-- Block (`a`, `b`) of the weights. -/
def xB (x : WA) (a b : ℕ) : BR 512 :=
  fun y => x (ix2 ⟨(512 * a + (y 0).val) % 3584, by omega⟩ ⟨(512 * b + (y 1).val) % 18944, by omega⟩)

theorem coords_eq : ∀ t : Fin cfg0.N, (grid0.coords t 0).val = t.val / 37 ∧ (grid0.coords t 1).val = t.val % 37 :=
  (by decide +kernel : ∀ t : Fin grid0.N, _)
theorem index0 : ∀ t : Fin cfg0.N, win0_0.index t (0 : Fin 2) = t.val / 37 ∧ win0_0.index t (1 : Fin 2) = t.val % 37 :=
  (by decide +kernel : ∀ t : Fin grid0.N, _)

/-- What the body leaves in window `w`'s buffer at point `t`, if it found `Y` there. -/
def vafter (x : WA) : (k : Fin cfg0.W) → (t : Fin cfg0.N) → ((cfg0.win k).block.Idx → Elt Ideal (cfg0.win k).elt) →
    ((cfg0.win k).block.Idx → Elt Ideal (cfg0.win k).elt) → Prop := fun
  | 0 => fun t Y X => X = Y
  | 1 => fun t Y X => (X : FVec Ideal S512x512 .fp8e4m3) = codesB (xB x (t.val / 37) (t.val % 37))
  | 2 => fun t Y X => (X : FVec Ideal S512x512 .bf16) = deqB (xB x (t.val / 37) (t.val % 37))
  | 3 => fun t Y X => (X : FVec Ideal S512x128 .f32) = scalesB (t.val % 37) (xB x (t.val / 37) (t.val % 37)) (Y : FVec Ideal S512x128 .f32)
  | ⟨_ + 4, h⟩ => absurd h (Nat.not_lt.2 (Nat.le_add_left _ _))

/-- The proof data on core `c`. -/
def vdat (c : Dev nD) : RDat τ (Elt Ideal) Unit ℕ (UR sig nD τ) ℕ cfg0 c where
  A w := Gen.V m c (Pipeline.arrRef spec0 w)
  after := vafter (Gen.V m c main_arg0)
  Φ _ := Pipeline.ΦA spec0 c
  q _ := fullShare
  owed _ := 0

theorem fetched0 (c : Dev nD) (t : Fin cfg0.N) (d) : (vdat m c).fetched 0 t d = xB (Gen.V m c main_arg0) (t.val / 37) (t.val % 37) := by
  funext y
  show Gen.V m c main_arg0 (((cfg0.win 0).blk t).view.emb y) = _
  unfold xB
  refine congrArg _ (funext fun a => Fin.ext ?_)
  obtain ⟨e0, e1⟩ := index0 t
  have ht : t.val < 259 := t.isLt
  match a with
  | ⟨0, _⟩ =>
    have h : (y 0).val < 512 := (y 0).isLt
    show win0_0.index t (0 : Fin 2) * 512 + 1 * (y 0).val = (512 * (t.val / 37) + (y 0).val) % 3584; omega
  | ⟨1, _⟩ =>
    have h : (y 1).val < 512 := (y 1).isLt
    show win0_0.index t (1 : Fin 2) * 512 + 1 * (y 1).val = (512 * (t.val % 37) + (y 1).val) % 18944; omega

set_option maxHeartbeats 1000000 in
/-- The body's obligation at every point. -/
theorem vbody (c : Dev nD) : (vdat m c).BodyObligation (defs₀ (F := Ideal)) Variants.none () Set.univ := fun t Y hY => by
  obtain ⟨d0, e0⟩ := (vdat m c).finds_in_eq_fetched 0 rfl (fun _ _ _ => rfl) (fun _ _ _ h => h) t (Y 0) (hY 0)
  rw [fetched0] at e0
  have hk : (grid0.coords t 1).val = t.val % 37 := (coords_eq t).2
  rw [bigSep_W0, bigSep_W0, defs₀_row]
  unfold bodyAt0
  rw [show (vdat m c).Φ t.succ = (vdat m c).Φ t.castSucc from rfl,
    show (vdat m c).owesAt () t.succ = (vdat m c).owesAt () t.castSucc from rfl]
  iintro ⟨HΦ, HO, H2, H3, H4, H5⟩
  iapply (kernelRunV c (grid0.coords t) _ _ _ _ _ _ _ _ _ (Y 0) (Y 3))
  isplitl [H2]; · iexact H2
  isplitl [H3]; · iexists _; iexact H3
  isplitl [H4]; · iexists _; iexact H4
  isplitl [H5]; · iexact H5
  iintro ⟨H2, H3, H4, H5⟩
  isplitl [HΦ]; · iexact HΦ
  isplitl [HO]; · iexact HO
  isplitl [H2]
  · iexists _; isplitr; swap; · iexact H2
    ipureintro; exact rfl
  isplitl [H3]
  · iexists _; isplitr; swap; · iexact H3
    ipureintro
    exact congrArg codesB e0
  isplitl [H4]
  · iexists _; isplitr; swap; · iexact H4
    ipureintro
    exact congrArg deqB e0
  iexists _; isplitr; swap; · iexact H5
  ipureintro
  show scalesB _ (Y 0) (Y 3) = scalesB _ _ (Y 3)
  rw [hk, e0]

set_option maxHeartbeats 800000 in
set_option backward.isDefEq.respectTransparency.types false in
/-- Every run of @main terminates with arrays that the points' contents make. -/
theorem vrun_main :
    θ_run defs (onTc (τ := τ) (main (F := Ideal))) (s₀ m ρ)
      (fun r => Pipeline.RDat.FramePost cfg0 (fun c => vdat m c) (Gen.V m) r ∧ r.2.sem = fun _ => 0) :=
  Pipeline.RDat.θ_run_frame_track cfgs (0 : Fin 1) launch0 defs₀ Variants.none (fun c => vdat m c) m ρ main
    (hbody := fun c => vbody m c) (hshare := fun c => (vdat m c).share_full fun _ => rfl)
    (howed := fun _ _ => rfl) (V := Gen.V m) (hmain := hmain m Variants.none) (hA := fun _ _ => rfl)
    (hin := fun _ => .rfl) (hout := fun _ => .rfl) (Q' := _)

end Cert.WeightIdeal.Hand

end
-- ==== Proof.WeightRefRead.lean ====
/-
  The weights' reference's three results, element by element over the extended reals: the codes are `Scale.code` of the
  element and its block's scale, the scales are `Scale.ladder` of the greatest magnitude of the block, and the
  dequantised values are code times scale.
-/
module

public import proofs.«01_k».proof.Proof.WeightRefValue
public import proofs.«01_k».proof.Proof.Scale
public import Idealize.ShloMosaic.Lib.Pointwise

@[expose] public section

noncomputable section

namespace Cert.WeightReferenceIdeal.Ref

open Cert.WeightReferenceIdeal Cert.WeightReferenceIdeal.Gen Cert.Scale
open Idealize.ShloMosaic Idealize.ShloMosaic.TcCoe Idealize.ShloMosaic.Tactic

/-- The greatest magnitudes of the blocks of 32. -/
def refMax (x : FVec Ideal S3584x18944 .bf16) : FVec Ideal S3584x592 .f32 :=
  multiReduction FKind.maximumf [2] S3584x592 (absf (k0_pay1 x)) (4286578688#32) reduces_S3584x592x32_S3584x592 k0_pay2._proof_2
    k0_pay2._proof_3

/-- The exponents of the scales, from the greatest magnitudes. -/
def expoV (v5 : FVec Ideal S3584x592x1 .f32) : FVec Ideal S3584x592x1 .f32 :=
  let v7 := divf v5 (broadcast S3584x592x1 (FloatOps.ofBits FTy.f32 1138753536#32))
  select (andi (cmpf CmpFPredicate.oge v7 (broadcast S3584x592x1 (FloatOps.ofBits FTy.f32 8388608#32))) (cmpf CmpFPredicate.ole v5 (broadcast S3584x592x1 (FloatOps.ofBits FTy.f32 2139095039#32))))
    (addf (floor (divf (log v7) (log (broadcast S3584x592x1 (FloatOps.ofBits FTy.f32 1073741824#32))))) (broadcast S3584x592x1 (FloatOps.ofBits FTy.f32 1065353216#32)))
    (broadcast S3584x592x1 (FloatOps.ofBits FTy.f32 0#32))

theorem pay2_eq (x : FVec Ideal S3584x18944 .bf16) : k0_pay2 x = expoV (shapeCast S3584x592x1 (refMax x) shapeCasts_S3584x592_S3584x592x1) := rfl

/-- Block `b` of row `r`. -/
abbrev blk (x : FVec Ideal S3584x18944 .bf16) (r : Fin 3584) (b : Fin 592) : Fin 32 → EReal :=
  fun i => x (ix2 r ⟨b.val * 32 + i.val, by omega⟩)

theorem blk_at (x : FVec Ideal S3584x18944 .bf16) (r : Fin 3584) (c : Fin 18944) :
    blk x r ⟨c.val / 32, by omega⟩ ⟨c.val % 32, by omega⟩ = x (ix2 r c) := by
  show x _ = x _
  congr 2
  exact Fin.ext (by show c.val / 32 * 32 + c.val % 32 = c.val; omega)

theorem pay1_apply (x : FVec Ideal S3584x18944 .bf16) (r : Fin 3584) (b : Fin 592) (i : Fin 32) :
    (k0_pay1 x : FVec Ideal S3584x592x32 .f32) (ix3 r b i) = blk x r b i := by
  pointwise [k0_pay1]

theorem c_ninf : Ideal.ofBits .f32 0xFF800000#32 = (⊥ : EReal) := by simp [Ideal.ofBits, Ideal.ieee]

theorem refMax_apply (x : FVec Ideal S3584x18944 .bf16) (r : Fin 3584) (b : Fin 592) : refMax x (ix2 r b) = amax (blk x r b) := by
  pointwise [refMax]
  simp only [pay1_apply, c_ninf]
  rfl

theorem expoV_apply (v : FVec Ideal S3584x592x1 .f32) (r : Fin 3584) (b : Fin 592) : expoV v (ix3 r b 0) = expo (v (ix3 r b 0)) := by
  pointwise [expoV]
  unfold expo Scalar.select
  by_cases h1 : Ideal.ofBits FTy.f32 8388608#32 ≤ Ideal.div (v (ix3 r b 0)) (Ideal.ofBits FTy.f32 1138753536#32) <;>
    by_cases h2 : v (ix3 r b 0) ≤ Ideal.ofBits FTy.f32 2139095039#32 <;> simp [h1, h2, IntOp.andi]

theorem pay2_apply (x : FVec Ideal S3584x18944 .bf16) (r : Fin 3584) (b : Fin 592) :
    (k0_pay2 x : FVec Ideal S3584x592x1 .f32) (ix3 r b 0) = expo (amax (blk x r b)) := by
  have h : shapeCast S3584x592x1 (refMax x) shapeCasts_S3584x592_S3584x592x1 (ix3 r b 0) = refMax x (ix2 r b) := by
    generalize refMax x = y
    pointwise []
  rw [pay2_eq, expoV_apply, h, refMax_apply]

/-- The scale of a block. -/
abbrev sc (x : FVec Ideal S3584x18944 .bf16) (r : Fin 3584) (b : Fin 592) : EReal := ladder (amax (blk x r b))

theorem pay3_apply (x : FVec Ideal S3584x18944 .bf16) (r : Fin 3584) (b : Fin 592) :
    (k0_pay3 x : FVec Ideal S3584x592x1 .f32) (ix3 r b 0) = sc x r b := by
  have : (k0_pay3 x : FVec Ideal S3584x592x1 .f32) (ix3 r b 0) = Ideal.exp2 ((k0_pay2 x : FVec Ideal S3584x592x1 .f32) (ix3 r b 0)) := by
    pointwise [k0_pay3]
    rfl
  rw [this, pay2_apply, (scale_eq _ (amax_nonneg _)).1]

theorem G3_apply (x : FVec Ideal S3584x18944 .bf16) (r : Fin 3584) (b : Fin 592) : G3 (F := Ideal) x (ix2 r b) = sc x r b := by
  rw [← pay3_apply]
  unfold G3 k0_pay7
  generalize (k0_pay3 x : FVec Ideal S3584x592x1 .f32) = y
  pointwise []

theorem pay4_apply (x : FVec Ideal S3584x18944 .bf16) (r : Fin 3584) (b : Fin 592) (i : Fin 32) :
    (k0_pay4 x : FVec Ideal S3584x592x32 .fp8e4m3) (ix3 r b i) = code (blk x r b i) (sc x r b) := by
  have : (k0_pay4 x : FVec Ideal S3584x592x32 .fp8e4m3) (ix3 r b i)
      = min (Ideal.ofBits .f32 0x43E00000#32) (max (Ideal.ofBits .f32 0xC3E00000#32)
        (((k0_pay1 x : FVec Ideal S3584x592x32 .f32) (ix3 r b i) : EReal) * Ideal.exp2 (0 - (k0_pay2 x : FVec Ideal S3584x592x1 .f32) (ix3 r b 0)))) := by
    pointwise [k0_pay4]
    rfl
  rw [this, pay1_apply, pay2_apply, (scale_eq _ (amax_nonneg _)).2]
  rfl

theorem G1_apply (x : FVec Ideal S3584x18944 .bf16) (r : Fin 3584) (c : Fin 18944) :
    G1 (F := Ideal) x (ix2 r c) = code (x (ix2 r c)) (sc x r ⟨c.val / 32, by omega⟩) := by
  have : G1 (F := Ideal) x (ix2 r c) = (k0_pay4 x : FVec Ideal S3584x592x32 .fp8e4m3) (ix3 r ⟨c.val / 32, by omega⟩ ⟨c.val % 32, by omega⟩) := by
    unfold G1 k0_pay6
    generalize (k0_pay4 x : FVec Ideal S3584x592x32 .fp8e4m3) = y
    pointwise []
  rw [this, pay4_apply, blk_at]

theorem G2_apply (x : FVec Ideal S3584x18944 .bf16) (r : Fin 3584) (c : Fin 18944) :
    G2 (F := Ideal) x (ix2 r c) = code (x (ix2 r c)) (sc x r ⟨c.val / 32, by omega⟩) * sc x r ⟨c.val / 32, by omega⟩ := by
  have : G2 (F := Ideal) x (ix2 r c) = ((k0_pay4 x : FVec Ideal S3584x592x32 .fp8e4m3) (ix3 r ⟨c.val / 32, by omega⟩ ⟨c.val % 32, by omega⟩) : EReal)
      * (k0_pay3 x : FVec Ideal S3584x592x1 .f32) (ix3 r ⟨c.val / 32, by omega⟩ 0) := by
    pointwise [k0_pay5]
  rw [this, pay4_apply, pay3_apply, blk_at]

end Cert.WeightReferenceIdeal.Ref

end
-- ==== Proof.WeightValue.lean ====
/-
  The weights' kernel's three arrays after the run are the reference's, block by block.
-/
module

public import proofs.«01_k».proof.Proof.WeightRun
public import proofs.«01_k».proof.Proof.WeightRefRead
public import Idealize.ShloMosaic.Lib.Pipeline.ArrRel
public import Idealize.ShloMosaic.Lib.Pipeline.ValueKit

@[expose] public section

set_option maxHeartbeats 1000000

noncomputable section

namespace Cert.WeightIdeal.Hand

open Cert.WeightIdeal Cert.WeightIdeal.Gen Cert.Scale
open Cert.KernelIdeal.Hand (BR bblk bscale codeAt deqAt lane)
open Idealize.ShloMosaic Idealize.ShloMosaic.TcCoe Idealize.ShloMosaic.Tactic
open Idealize.SL.Sem
open Idealize.ShloMosaic.Pipeline (Dat RDat)
open Cert.WeightReferenceIdeal.Ref (G1 G2 G3 blk sc G1_apply G2_apply G3_apply)

variable (m : (ℓ : Loc nD τ sig) → Buf (Elt Ideal) ℓ) (ρ : Dev nD → PrngReg)

/-! The kernel's blocks in the arrays. -/

abbrev gr (a : ℕ) (ha : a < 7) (r : Fin 512) : Fin 3584 := ⟨512 * a + r.val, by omega⟩
abbrev gc (b : ℕ) (hb : b < 37) (c : Fin 512) : Fin 18944 := ⟨512 * b + c.val, by omega⟩

theorem xB_apply (x : WA) (a b : ℕ) (ha : a < 7) (hb : b < 37) (r : Fin 512) (c : Fin 512) : xB x a b (ix2 r c) = x (ix2 (gr a ha r) (gc b hb c)) := by
  show x (ix2 _ _) = _
  congr 2
  · exact Fin.ext (by show (512 * a + r.val) % 3584 = 512 * a + r.val; omega)
  · exact Fin.ext (by show (512 * b + c.val) % 18944 = 512 * b + c.val; omega)

theorem bscale_eq (x : WA) (a b : ℕ) (ha : a < 7) (hb : b < 37) (r : Fin 512) (q : Fin 16) :
    bscale (xB x a b) r q = sc x (gr a ha r) ⟨16 * b + q.val, by omega⟩ := by
  have : bblk (xB x a b) r q = blk x (gr a ha r) ⟨16 * b + q.val, by omega⟩ := funext fun i => by
    show xB x a b (ix2 r _) = _
    rw [xB_apply x a b ha hb]
    show x (ix2 _ _) = x (ix2 _ _)
    congr 2
    exact Fin.ext (by show 512 * b + (q.val * 32 + i.val) = (16 * b + q.val) * 32 + i.val; omega)
  show ladder (amax (bblk _ _ _)) = ladder (amax (blk _ _ _))
  rw [this]

theorem blkIx (b : ℕ) (hb : b < 37) (c : Fin 512) :
    (⟨16 * b + c.val / 32, by omega⟩ : Fin 592) = ⟨(gc b hb c).val / 32, by omega⟩ :=
  Fin.ext (by show 16 * b + c.val / 32 = (512 * b + c.val) / 32; omega)

theorem codeAt_eq (x : WA) (a b : ℕ) (ha : a < 7) (hb : b < 37) (r : Fin 512) (c : Fin 512) :
    codeAt (xB x a b) r c = code (x (ix2 (gr a ha r) (gc b hb c))) (sc x (gr a ha r) ⟨(gc b hb c).val / 32, by omega⟩) := by
  unfold codeAt
  rw [xB_apply x a b ha hb, bscale_eq x a b ha hb]
  rw [blkIx b hb c]

theorem deqAt_eq (x : WA) (a b : ℕ) (ha : a < 7) (hb : b < 37) (r : Fin 512) (c : Fin 512) :
    deqAt (xB x a b) r c = code (x (ix2 (gr a ha r) (gc b hb c))) (sc x (gr a ha r) ⟨(gc b hb c).val / 32, by omega⟩)
      * sc x (gr a ha r) ⟨(gc b hb c).val / 32, by omega⟩ := by
  unfold deqAt
  rw [codeAt_eq x a b ha hb, bscale_eq x a b ha hb, blkIx b hb c]

/-! The result windows: where their blocks lie, and when they are written back. -/

theorem index1 : ∀ t : Fin cfg0.N, win0_1.index t (0 : Fin 2) = t.val / 37 ∧ win0_1.index t (1 : Fin 2) = t.val % 37 :=
  (by decide +kernel : ∀ t : Fin grid0.N, _)
theorem index2 : ∀ t : Fin cfg0.N, win0_2.index t (0 : Fin 2) = t.val / 37 ∧ win0_2.index t (1 : Fin 2) = t.val % 37 :=
  (by decide +kernel : ∀ t : Fin grid0.N, _)
theorem index3 : ∀ t : Fin cfg0.N, win0_3.index t (0 : Fin 2) = t.val / 37 ∧ win0_3.index t (1 : Fin 2) = t.val % 37 / 8 :=
  (by decide +kernel : ∀ t : Fin grid0.N, _)
theorem flush3 : ∀ t : Fin cfg0.N, win0_3.flush t = true → t.val % 37 % 8 = 7 ∨ t.val % 37 = 36 :=
  (by decide +kernel : ∀ t : Fin grid0.N, _)
theorem size3 : ∀ t : Fin cfg0.N, win0_3.flush t = true → (win0_3.xblock (grid0.coords t)).size (1 : Fin 2) ≤ 16 * (t.val % 37 % 8 + 1) :=
  (by decide +kernel : ∀ t : Fin grid0.N, _)

/-- What the scales' buffer holds after point `t`: lane groups up to this point's hold their blocks' scales. -/
theorem leaves3 (c : Dev nD) (n : ℕ) : ∀ (hn : n < cfg0.N) (X : FVec Ideal S512x128 .f32), (vdat m c).Leaves 3 ⟨n, hn⟩ X →
    ∀ y : S512x128.Idx, (lane y).val / 16 ≤ n % 37 % 8 →
      X y = bscale (xB (Gen.V m c main_arg0) (n / 37) (n % 37 / 8 * 8 + (lane y).val / 16)) (y 0) ⟨(y 1).val % 16, Nat.mod_lt _ (by norm_num)⟩ := by
  induction n with
  | zero =>
    intro hn X hX y hy
    obtain ⟨Y, _, h⟩ := hX
    have h : X = scalesB (0 % 37) (xB (Gen.V m c main_arg0) (0 / 37) (0 % 37)) Y := h
    have e : (lane y).val / 16 = 0 := by omega
    rw [h, e]
    unfold scalesB
    exact if_pos e
  | succ n ih =>
    intro hn X hX y hy
    obtain ⟨Y, hY, h⟩ := hX
    have h : X = scalesB ((n + 1) % 37) (xB (Gen.V m c main_arg0) ((n + 1) / 37) ((n + 1) % 37)) Y := h
    by_cases e : (lane y).val / 16 = (n + 1) % 37 % 8
    · rw [h, e, show (n + 1) % 37 / 8 * 8 + (n + 1) % 37 % 8 = (n + 1) % 37 by omega]
      unfold scalesB
      exact if_pos e
    · have h0 : (n + 1) % 37 ≠ 0 := fun h0 => by rw [h0] at hy e; omega
      have a1 : (n + 1) % 37 = n % 37 + 1 := by omega
      have a2 : (n + 1) / 37 = n / 37 := by omega
      have hk : n % 37 < 37 := Nat.mod_lt _ (by norm_num)
      rw [a1] at h hy e
      rw [a2] at h
      rw [a1, a2]
      have hf := (Pipeline.RDat.finds_of_pos (rd := vdat m c) (w := 3) (t := ⟨n + 1, hn⟩) (Pipeline.Window.fetch_out _ rfl _) (Nat.succ_ne_zero n) Y).mp hY
      have hL : (vdat m c).Leaves 3 ⟨n, Nat.lt_of_succ_lt hn⟩ Y := by
        rcases hf with hf | hf
        · have := flush3 ⟨n, Nat.lt_of_succ_lt hn⟩ hf
          dsimp only at this
          omega
        · exact hf
      have := ih _ Y hL y (by omega)
      rw [h, show (n % 37 + 1) / 8 * 8 = n % 37 / 8 * 8 by omega, ← this]
      unfold scalesB
      exact if_neg e

/-! The arrays after the run. -/

theorem final1 (c : Dev nD) (after) (hL : ∀ w u, (cfg0.win w).flush u = true → (vdat m c).Leaves w u (after w u)) :
    ((vdat m c).withAfter after).arrAt 1 cfg0.N = G1 (F := Ideal) (Gen.V m c main_arg0) :=
  Dat.arrAt_eq_of_covers ((vdat m c).withAfter after) 1 (G1 (F := Ideal) (Gen.V m c main_arg0)) (by decide +kernel) fun t hf y => by
    obtain ⟨Y, _, h⟩ := hL 1 t hf
    have ht : t.val < 259 := t.isLt
    have h : after 1 t = codesB (xB (Gen.V m c main_arg0) (t.val / 37) (t.val % 37)) := h
    obtain ⟨e0, e1⟩ := index1 t
    let r : Fin 512 := y 0
    let n : Fin 512 := y 1
    have ey : win0_1.xinj (grid0.coords t) y = ix2 r n := funext fun a => match a with
      | ⟨0, _⟩ => rfl
      | ⟨1, _⟩ => rfl
    show after 1 t (win0_1.xinj (grid0.coords t) y) = _
    rw [ey, h]
    show codeAt _ r n = _
    rw [codeAt_eq _ _ _ (by omega) (by omega), ← G1_apply (Gen.V m c main_arg0)]
    refine congrArg (G1 (F := Ideal) (Gen.V m c main_arg0)) (funext fun a => Fin.ext ?_)
    match a with
    | ⟨0, _⟩ => show 512 * (t.val / 37) + (y 0).val = win0_1.index t (0 : Fin 2) * 512 + 1 * (y 0).val; omega
    | ⟨1, _⟩ => show 512 * (t.val % 37) + (y 1).val = win0_1.index t (1 : Fin 2) * 512 + 1 * (y 1).val; omega

theorem final2 (c : Dev nD) (after) (hL : ∀ w u, (cfg0.win w).flush u = true → (vdat m c).Leaves w u (after w u)) :
    ((vdat m c).withAfter after).arrAt 2 cfg0.N = G2 (F := Ideal) (Gen.V m c main_arg0) :=
  Dat.arrAt_eq_of_covers ((vdat m c).withAfter after) 2 (G2 (F := Ideal) (Gen.V m c main_arg0)) (by decide +kernel) fun t hf y => by
    obtain ⟨Y, _, h⟩ := hL 2 t hf
    have ht : t.val < 259 := t.isLt
    have h : after 2 t = deqB (xB (Gen.V m c main_arg0) (t.val / 37) (t.val % 37)) := h
    obtain ⟨e0, e1⟩ := index2 t
    let r : Fin 512 := y 0
    let n : Fin 512 := y 1
    have ey : win0_2.xinj (grid0.coords t) y = ix2 r n := funext fun a => match a with
      | ⟨0, _⟩ => rfl
      | ⟨1, _⟩ => rfl
    show after 2 t (win0_2.xinj (grid0.coords t) y) = _
    rw [ey, h]
    show deqAt _ r n = _
    rw [deqAt_eq _ _ _ (by omega) (by omega), ← G2_apply (Gen.V m c main_arg0)]
    refine congrArg (G2 (F := Ideal) (Gen.V m c main_arg0)) (funext fun a => Fin.ext ?_)
    match a with
    | ⟨0, _⟩ => show 512 * (t.val / 37) + (y 0).val = win0_2.index t (0 : Fin 2) * 512 + 1 * (y 0).val; omega
    | ⟨1, _⟩ => show 512 * (t.val % 37) + (y 1).val = win0_2.index t (1 : Fin 2) * 512 + 1 * (y 1).val; omega

theorem final3 (c : Dev nD) (after) (hL : ∀ w u, (cfg0.win w).flush u = true → (vdat m c).Leaves w u (after w u)) :
    ((vdat m c).withAfter after).arrAt 3 cfg0.N = G3 (F := Ideal) (Gen.V m c main_arg0) :=
  Dat.arrAt_eq_of_covers ((vdat m c).withAfter after) 3 (G3 (F := Ideal) (Gen.V m c main_arg0)) (by decide +kernel) fun t hf y => by
    have ht : t.val < 259 := t.isLt
    have hy0 : (y 0).val < 512 := ((win0_3.xinj (grid0.coords t) y) 0).isLt
    have hy1 : (y 1).val < 128 := ((win0_3.xinj (grid0.coords t) y) 1).isLt
    have hs : (y 1).val < 16 * (t.val % 37 % 8 + 1) := lt_of_lt_of_le (y 1).isLt (size3 t hf)
    obtain ⟨e0, e1⟩ := index3 t
    let r : Fin 512 := ⟨(y 0).val, hy0⟩
    let n : Fin 128 := ⟨(y 1).val, hy1⟩
    have h := leaves3 m c t.val t.isLt (after 3 t) (hL 3 t hf) (ix2 r n) (by show (y 1).val / 16 ≤ _; omega)
    have ey : win0_3.xinj (grid0.coords t) y = ix2 r n := funext fun a => match a with
      | ⟨0, _⟩ => rfl
      | ⟨1, _⟩ => rfl
    show after 3 t (win0_3.xinj (grid0.coords t) y) = _
    rw [ey, h]
    have hb : t.val % 37 / 8 * 8 + (y 1).val / 16 < 37 := by omega
    show bscale (xB _ _ (t.val % 37 / 8 * 8 + (y 1).val / 16)) r ⟨(y 1).val % 16, _⟩ = _
    rw [bscale_eq _ _ _ (by omega) hb, ← G3_apply (Gen.V m c main_arg0)]
    refine congrArg (G3 (F := Ideal) (Gen.V m c main_arg0)) (funext fun a => Fin.ext ?_)
    match a with
    | ⟨0, _⟩ => show 512 * (t.val / 37) + (y 0).val = win0_3.index t (0 : Fin 2) * 512 + 1 * (y 0).val; omega
    | ⟨1, _⟩ =>
      show 16 * (t.val % 37 / 8 * 8 + (y 1).val / 16) + (y 1).val % 16 = win0_3.index t (1 : Fin 2) * 128 + 1 * (y 1).val
      omega

/-- Every run of @main ends with the three arrays at the reference's functions of the argument. -/
theorem vrun :
    θ_run defs (onTc (τ := τ) (main (F := Ideal))) ⟨m, fun _ => 0, ρ⟩ fun r => ∀ c : Dev nD,
      r.2.mem ((c : Thread nD τ).loc main_v0_0) = G1 (F := Ideal) (m ((c : Thread nD τ).loc main_arg0))
      ∧ r.2.mem ((c : Thread nD τ).loc main_v0_1) = G2 (F := Ideal) (m ((c : Thread nD τ).loc main_arg0))
      ∧ r.2.mem ((c : Thread nD τ).loc main_v0_2) = G3 (F := Ideal) (m ((c : Thread nD τ).loc main_arg0))
      ∧ r.2.mem ((c : Thread nD τ).loc main_arg0) = m ((c : Thread nD τ).loc main_arg0) :=
  (θ_run defs _ _).mono (fun r h c => by
    obtain ⟨after, hL, hA⟩ := Pipeline.RDat.FramePost.exists_exact h.1 c
    exact ⟨(hA 1).trans (final1 m c after hL), (hA 2).trans (final2 m c after hL), (hA 3).trans (final3 m c after hL),
      Pipeline.RDat.FramePost.arr_in h.1 c 0 rfl⟩)
    (vrun_main m ρ)

end Cert.WeightIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Weight
public import proofs.«01_k».proof.Proof.Gen.Weight.Skeleton
public import proofs.«01_k».proof.Proof.Gen.Weight.Loops
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Loops
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightReferenceIdeal
public import proofs.«01_k».proof.Proof.Gen.WeightReferenceIdeal.Skeleton
public import proofs.«01_k».proof.Proof.Gen.WeightReferenceIdeal.Launch
public import proofs.«01_k».proof.Proof.Gen.WeightReferenceIdeal.Points
public import proofs.«01_k».proof.Proof.Gen.WeightReferenceIdeal.Frame
public import proofs.«01_k».proof.Proof.KernelFrame
public import proofs.«01_k».proof.Proof.KernelIdealFrame
public import proofs.«01_k».proof.Proof.RefValue
public import proofs.«01_k».proof.Proof.KerValue
public import proofs.«01_k».proof.Proof.WeightFrame
public import proofs.«01_k».proof.Proof.WeightIdealFrame
public import proofs.«01_k».proof.Proof.WeightRefValue
public import proofs.«01_k».proof.Proof.WeightValue
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The idealized kernel and the reference leave the same three arrays. -/
theorem algebraic : Cert.algebraic_KernelIdeal_ReferenceIdeal (hKernelIdeal := Cert.KernelIdeal.Gen.facts) (hReferenceIdeal := Cert.ReferenceIdeal.Gen.facts) :=
  fun m g m' g' _ e => ⟨_, _, _, Cert.KernelIdeal.Hand.vrun m g,
    (θ_run _ _ _).mono (fun r h c => by
      obtain ⟨h0, h1, h2, h3, h4⟩ := h c
      rw [(e c).1, (e c).2] at h0 h1 h2
      exact ⟨h0, h1, h2, h3, h4⟩) (Cert.ReferenceIdeal.Ref.run m' g')⟩

/-- The idealized kernel of the weights and its reference leave the same three arrays. -/
theorem algebraic_weight : Cert.algebraic_WeightIdeal_WeightReferenceIdeal (hWeightIdeal := Cert.WeightIdeal.Gen.facts) (hWeightReferenceIdeal := Cert.WeightReferenceIdeal.Gen.facts) :=
  fun m g m' g' _ e => ⟨_, _, _, Cert.WeightIdeal.Hand.vrun m g,
    (θ_run _ _ _).mono (fun r h c => by
      obtain ⟨h0, h1, h2, h3⟩ := h c
      rw [e c] at h0 h1 h2
      exact ⟨h0, h1, h2, h3⟩) (Cert.WeightReferenceIdeal.Ref.run m' g')⟩

theorem claim : Cert.Claim := ⟨Cert.Kernel.Gen.facts, Cert.KernelIdeal.Gen.facts, Cert.ReferenceIdeal.Gen.facts,
  Cert.Weight.Gen.facts, Cert.WeightIdeal.Gen.facts, Cert.WeightReferenceIdeal.Gen.facts,
  fun m ρ _ => Cert.Kernel.Hand.frame_main m ρ, fun m ρ _ => Cert.KernelIdeal.Hand.frame_main m ρ,
  fun m ρ _ => Cert.ReferenceIdeal.Gen.frame m ρ,
  fun m ρ _ => Cert.Weight.Hand.frame_main m ρ, fun m ρ _ => Cert.WeightIdeal.Hand.frame_main m ρ,
  fun m ρ _ => Cert.WeightReferenceIdeal.Gen.frame m ρ,
  ⟨IdealRules.bf16_pair.statement _ _, IdealRules.bf16_pack.statement _⟩, algebraic,
  ⟨IdealRules.bf16_pair.statement _ _, IdealRules.bf16_pack.statement _⟩, algebraic_weight⟩

end Cert.Proof

end
